-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S8x256x2048 : Shape := ⟨3, ![8, 256, 2048]⟩
abbrev S2x256x2048 : Shape := ⟨3, ![2, 256, 2048]⟩
abbrev S8 : Shape := ⟨1, ![8]⟩
abbrev S3 : Shape := ⟨1, ![3]⟩
abbrev S5 : Shape := ⟨1, ![5]⟩
abbrev S2 : Shape := ⟨1, ![2]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩

abbrev nBuf : Space → Nat
  | .hbm => 4
  | .vmem => 6
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S8192x2048, .f32⟩
  | .local _ .vmem, ⟨0, _⟩ => ⟨S2048, .f32⟩
  | .local _ .vmem, ⟨1, _⟩ => ⟨S8x256x2048, .f32⟩
  | .local _ .vmem, ⟨2, _⟩ => ⟨S8x256x2048, .f32⟩
  | .local _ .vmem, ⟨3, _⟩ => ⟨S8x256x2048, .f32⟩
  | .local _ .vmem, ⟨4, _⟩ => ⟨S2x256x2048, .f32⟩
  | .local _ .vmem, ⟨5, _⟩ => ⟨S2x256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  (ofTc nBuf bufTy 1 85 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c0_i32_18 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.xori v5 v8
  let v14 : BitVec 32 := Scalar.addi v13 v12
  let c2048_i32 : BitVec 32 := 2048#32
  let v15 : BitVec 32 := Scalar.muli v14 c2048_i32
  let v29 : BitVec 32 := Scalar.addi v15 c0_i32
  let c0_i32_23 : BitVec 32 := 0#32
  ![0, v29.toNat, 0]
def k0_off2 (d0 : Dev nD) (c0_i32_17 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.xori v5 v8
  let v14 : BitVec 32 := Scalar.addi v13 v12
  let c2048_i32 : BitVec 32 := 2048#32
  let v15 : BitVec 32 := Scalar.muli v14 c2048_i32
  let v30 : BitVec 32 := Scalar.addi v15 c0_i32_17
  let c0_i32_28 : BitVec 32 := 0#32
  ![v30.toNat, 0]
def k0_dev1 (d0 : Dev nD) : Nat :=
  let c0_i32_31 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_30 : BitVec 32 := 4#32
  let v43 : BitVec 32 := Scalar.muli v9 c4_i32_30
  let v44 : BitVec 32 := Scalar.addi c0_i32_31 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v45 : BitVec 32 := Scalar.muli v5 c2_i32_32
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v47 : BitVec 32 := Scalar.muli v8 c1_i32_33
  let v48 : BitVec 32 := Scalar.addi v46 v47
  v48.toNat
def k0_dev2 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v49 : BitVec 32 := Scalar.muli v2 c4_i32_35
  let v50 : BitVec 32 := Scalar.addi c0_i32_36 v49
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_37 : BitVec 32 := 2#32
  let v51 : BitVec 32 := Scalar.muli v10 c2_i32_37
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v53 : BitVec 32 := Scalar.muli v8 c1_i32_38
  let v54 : BitVec 32 := Scalar.addi v52 v53
  v54.toNat
def k0_dev3 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v55 : BitVec 32 := Scalar.muli v2 c4_i32_40
  let v56 : BitVec 32 := Scalar.addi c0_i32_41 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v57 : BitVec 32 := Scalar.muli v5 c2_i32_42
  let v58 : BitVec 32 := Scalar.addi v56 v57
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_43 : BitVec 32 := 1#32
  let v59 : BitVec 32 := Scalar.muli v11 c1_i32_43
  let v60 : BitVec 32 := Scalar.addi v58 v59
  v60.toNat
def k0_off3 (d0 : Dev nD) (c0_i32_44 : BitVec 32) : Fin 3 → Nat :=
  let c0_i32_45 : BitVec 32 := 0#32
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_10 v2
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.xori v5 v8
  let v21 : BitVec 32 := Scalar.subi c1_i32_11 v12
  let v22 : BitVec 32 := Scalar.addi v20 v21
  let c2048_i32_12 : BitVec 32 := 2048#32
  let v23 : BitVec 32 := Scalar.muli v22 c2048_i32_12
  let v61 : BitVec 32 := Scalar.addi v23 c0_i32_44
  let c0_i32_55 : BitVec 32 := 0#32
  ![0, v61.toNat, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v62 : BitVec 32 := Scalar.muli v2 c4_i32_49
  let v63 : BitVec 32 := Scalar.addi c0_i32_50 v62
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_51 : BitVec 32 := 2#32
  let v64 : BitVec 32 := Scalar.muli v10 c2_i32_51
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v66 : BitVec 32 := Scalar.muli v8 c1_i32_52
  let v67 : BitVec 32 := Scalar.addi v65 v66
  v67.toNat
def k0_dev5 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v77 : BitVec 32 := Scalar.muli v2 c4_i32_60
  let v78 : BitVec 32 := Scalar.addi c0_i32_61 v77
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_62 : BitVec 32 := 2#32
  let v79 : BitVec 32 := Scalar.muli v10 c2_i32_62
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v81 : BitVec 32 := Scalar.muli v8 c1_i32_63
  let v82 : BitVec 32 := Scalar.addi v80 v81
  v82.toNat
def k0_dev6 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v92 : BitVec 32 := Scalar.muli v2 c4_i32_71
  let v93 : BitVec 32 := Scalar.addi c0_i32_72 v92
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_73 : BitVec 32 := 2#32
  let v94 : BitVec 32 := Scalar.muli v10 c2_i32_73
  let v95 : BitVec 32 := Scalar.addi v93 v94
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v96 : BitVec 32 := Scalar.muli v8 c1_i32_74
  let v97 : BitVec 32 := Scalar.addi v95 v96
  v97.toNat
def k0_dev7 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v107 : BitVec 32 := Scalar.muli v2 c4_i32_82
  let v108 : BitVec 32 := Scalar.addi c0_i32_83 v107
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_84 : BitVec 32 := 2#32
  let v109 : BitVec 32 := Scalar.muli v10 c2_i32_84
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v111 : BitVec 32 := Scalar.muli v8 c1_i32_85
  let v112 : BitVec 32 := Scalar.addi v110 v111
  v112.toNat
def k0_dev8 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v122 : BitVec 32 := Scalar.muli v2 c4_i32_93
  let v123 : BitVec 32 := Scalar.addi c0_i32_94 v122
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_95 : BitVec 32 := 2#32
  let v124 : BitVec 32 := Scalar.muli v10 c2_i32_95
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v126 : BitVec 32 := Scalar.muli v8 c1_i32_96
  let v127 : BitVec 32 := Scalar.addi v125 v126
  v127.toNat
def k0_dev9 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_103 : BitVec 32 := 4#32
  let v137 : BitVec 32 := Scalar.muli v2 c4_i32_103
  let v138 : BitVec 32 := Scalar.addi c0_i32_104 v137
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_105 : BitVec 32 := 2#32
  let v139 : BitVec 32 := Scalar.muli v10 c2_i32_105
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v141 : BitVec 32 := Scalar.muli v8 c1_i32_106
  let v142 : BitVec 32 := Scalar.addi v140 v141
  v142.toNat
def k0_dev10 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v152 : BitVec 32 := Scalar.muli v2 c4_i32_113
  let v153 : BitVec 32 := Scalar.addi c0_i32_114 v152
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_115 : BitVec 32 := 2#32
  let v154 : BitVec 32 := Scalar.muli v10 c2_i32_115
  let v155 : BitVec 32 := Scalar.addi v153 v154
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v156 : BitVec 32 := Scalar.muli v8 c1_i32_116
  let v157 : BitVec 32 := Scalar.addi v155 v156
  v157.toNat
def k0_dev11 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_123 : BitVec 32 := 4#32
  let v167 : BitVec 32 := Scalar.muli v2 c4_i32_123
  let v168 : BitVec 32 := Scalar.addi c0_i32_124 v167
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_125 : BitVec 32 := 2#32
  let v169 : BitVec 32 := Scalar.muli v10 c2_i32_125
  let v170 : BitVec 32 := Scalar.addi v168 v169
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v171 : BitVec 32 := Scalar.muli v8 c1_i32_126
  let v172 : BitVec 32 := Scalar.addi v170 v171
  v172.toNat
def k0_dev12 (d0 : Dev nD) : Nat :=
  let c0_i32_190 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_189 : BitVec 32 := 4#32
  let v249 : BitVec 32 := Scalar.muli v9 c4_i32_189
  let v250 : BitVec 32 := Scalar.addi c0_i32_190 v249
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_191 : BitVec 32 := 2#32
  let v251 : BitVec 32 := Scalar.muli v5 c2_i32_191
  let v252 : BitVec 32 := Scalar.addi v250 v251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_192 : BitVec 32 := 1#32
  let v253 : BitVec 32 := Scalar.muli v8 c1_i32_192
  let v254 : BitVec 32 := Scalar.addi v252 v253
  v254.toNat
def k0_dev13 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_201 : BitVec 32 := 4#32
  let v264 : BitVec 32 := Scalar.muli v2 c4_i32_201
  let v265 : BitVec 32 := Scalar.addi c0_i32_202 v264
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_203 : BitVec 32 := 2#32
  let v266 : BitVec 32 := Scalar.muli v10 c2_i32_203
  let v267 : BitVec 32 := Scalar.addi v265 v266
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_204 : BitVec 32 := 1#32
  let v268 : BitVec 32 := Scalar.muli v8 c1_i32_204
  let v269 : BitVec 32 := Scalar.addi v267 v268
  v269.toNat
def k0_dev14 (d0 : Dev nD) : Nat :=
  let c0_i32_269 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_268 : BitVec 32 := 4#32
  let v345 : BitVec 32 := Scalar.muli v9 c4_i32_268
  let v346 : BitVec 32 := Scalar.addi c0_i32_269 v345
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v347 : BitVec 32 := Scalar.muli v5 c2_i32_270
  let v348 : BitVec 32 := Scalar.addi v346 v347
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v349 : BitVec 32 := Scalar.muli v8 c1_i32_271
  let v350 : BitVec 32 := Scalar.addi v348 v349
  v350.toNat
def k0_dev15 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v360 : BitVec 32 := Scalar.muli v2 c4_i32_280
  let v361 : BitVec 32 := Scalar.addi c0_i32_281 v360
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_282 : BitVec 32 := 2#32
  let v362 : BitVec 32 := Scalar.muli v10 c2_i32_282
  let v363 : BitVec 32 := Scalar.addi v361 v362
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v364 : BitVec 32 := Scalar.muli v8 c1_i32_283
  let v365 : BitVec 32 := Scalar.addi v363 v364
  v365.toNat
def k0_off4 (d0 : Dev nD) (c0_i32_299 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v17 : BitVec 32 := Scalar.muli c2_i32_8 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.xori v5 v8
  let v18 : BitVec 32 := Scalar.addi v17 v12
  let c2048_i32_9 : BitVec 32 := 2048#32
  let v19 : BitVec 32 := Scalar.muli v18 c2048_i32_9
  let v385 : BitVec 32 := Scalar.addi v19 c0_i32_299
  let c0_i32_302 : BitVec 32 := 0#32
  ![v385.toNat, 0]
def k0_dev16 (d0 : Dev nD) : Nat :=
  let c0_i32_310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_309 : BitVec 32 := 4#32
  let v392 : BitVec 32 := Scalar.muli v2 c4_i32_309
  let v393 : BitVec 32 := Scalar.addi c0_i32_310 v392
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_311 : BitVec 32 := 2#32
  let v394 : BitVec 32 := Scalar.muli v5 c2_i32_311
  let v395 : BitVec 32 := Scalar.addi v393 v394
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_312 : BitVec 32 := 1#32
  let v396 : BitVec 32 := Scalar.muli v11 c1_i32_312
  let v397 : BitVec 32 := Scalar.addi v395 v396
  v397.toNat
def k0_dev17 (d0 : Dev nD) : Nat :=
  let c0_i32_377 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_376 : BitVec 32 := 4#32
  let v473 : BitVec 32 := Scalar.muli v9 c4_i32_376
  let v474 : BitVec 32 := Scalar.addi c0_i32_377 v473
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_378 : BitVec 32 := 2#32
  let v475 : BitVec 32 := Scalar.muli v5 c2_i32_378
  let v476 : BitVec 32 := Scalar.addi v474 v475
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_379 : BitVec 32 := 1#32
  let v477 : BitVec 32 := Scalar.muli v8 c1_i32_379
  let v478 : BitVec 32 := Scalar.addi v476 v477
  v478.toNat
def k0_dev18 (d0 : Dev nD) : Nat :=
  let c0_i32_389 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_388 : BitVec 32 := 4#32
  let v488 : BitVec 32 := Scalar.muli v2 c4_i32_388
  let v489 : BitVec 32 := Scalar.addi c0_i32_389 v488
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_390 : BitVec 32 := 2#32
  let v490 : BitVec 32 := Scalar.muli v10 c2_i32_390
  let v491 : BitVec 32 := Scalar.addi v489 v490
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_391 : BitVec 32 := 1#32
  let v492 : BitVec 32 := Scalar.muli v8 c1_i32_391
  let v493 : BitVec 32 := Scalar.addi v491 v492
  v493.toNat
def k0_dev19 (d0 : Dev nD) : Nat :=
  let c0_i32_418 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_417 : BitVec 32 := 4#32
  let v520 : BitVec 32 := Scalar.muli v2 c4_i32_417
  let v521 : BitVec 32 := Scalar.addi c0_i32_418 v520
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_419 : BitVec 32 := 2#32
  let v522 : BitVec 32 := Scalar.muli v5 c2_i32_419
  let v523 : BitVec 32 := Scalar.addi v521 v522
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_420 : BitVec 32 := 1#32
  let v524 : BitVec 32 := Scalar.muli v11 c1_i32_420
  let v525 : BitVec 32 := Scalar.addi v523 v524
  v525.toNat
def k0_dev20 (d0 : Dev nD) : Nat :=
  let c0_i32_485 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_484 : BitVec 32 := 4#32
  let v601 : BitVec 32 := Scalar.muli v9 c4_i32_484
  let v602 : BitVec 32 := Scalar.addi c0_i32_485 v601
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_486 : BitVec 32 := 2#32
  let v603 : BitVec 32 := Scalar.muli v5 c2_i32_486
  let v604 : BitVec 32 := Scalar.addi v602 v603
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_487 : BitVec 32 := 1#32
  let v605 : BitVec 32 := Scalar.muli v8 c1_i32_487
  let v606 : BitVec 32 := Scalar.addi v604 v605
  v606.toNat
def k0_dev21 (d0 : Dev nD) : Nat :=
  let c0_i32_497 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_496 : BitVec 32 := 4#32
  let v616 : BitVec 32 := Scalar.muli v2 c4_i32_496
  let v617 : BitVec 32 := Scalar.addi c0_i32_497 v616
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_498 : BitVec 32 := 2#32
  let v618 : BitVec 32 := Scalar.muli v5 c2_i32_498
  let v619 : BitVec 32 := Scalar.addi v617 v618
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_499 : BitVec 32 := 1#32
  let v620 : BitVec 32 := Scalar.muli v11 c1_i32_499
  let v621 : BitVec 32 := Scalar.addi v619 v620
  v621.toNat
def k0_dev22 (d0 : Dev nD) : Nat :=
  let c0_i32_526 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_525 : BitVec 32 := 4#32
  let v648 : BitVec 32 := Scalar.muli v2 c4_i32_525
  let v649 : BitVec 32 := Scalar.addi c0_i32_526 v648
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_527 : BitVec 32 := 2#32
  let v650 : BitVec 32 := Scalar.muli v5 c2_i32_527
  let v651 : BitVec 32 := Scalar.addi v649 v650
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_528 : BitVec 32 := 1#32
  let v652 : BitVec 32 := Scalar.muli v11 c1_i32_528
  let v653 : BitVec 32 := Scalar.addi v651 v652
  v653.toNat
def k0_dev23 (d0 : Dev nD) : Nat :=
  let c0_i32_593 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_592 : BitVec 32 := 4#32
  let v729 : BitVec 32 := Scalar.muli v9 c4_i32_592
  let v730 : BitVec 32 := Scalar.addi c0_i32_593 v729
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_594 : BitVec 32 := 2#32
  let v731 : BitVec 32 := Scalar.muli v5 c2_i32_594
  let v732 : BitVec 32 := Scalar.addi v730 v731
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_595 : BitVec 32 := 1#32
  let v733 : BitVec 32 := Scalar.muli v8 c1_i32_595
  let v734 : BitVec 32 := Scalar.addi v732 v733
  v734.toNat
def k0_dev24 (d0 : Dev nD) : Nat :=
  let c0_i32_605 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_604 : BitVec 32 := 4#32
  let v744 : BitVec 32 := Scalar.muli v2 c4_i32_604
  let v745 : BitVec 32 := Scalar.addi c0_i32_605 v744
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_606 : BitVec 32 := 2#32
  let v746 : BitVec 32 := Scalar.muli v5 c2_i32_606
  let v747 : BitVec 32 := Scalar.addi v745 v746
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_607 : BitVec 32 := 1#32
  let v748 : BitVec 32 := Scalar.muli v11 c1_i32_607
  let v749 : BitVec 32 := Scalar.addi v747 v748
  v749.toNat
def k0_dev25 (d0 : Dev nD) : Nat :=
  let c0_i32_690 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_689 : BitVec 32 := 4#32
  let v843 : BitVec 32 := Scalar.muli v9 c4_i32_689
  let v844 : BitVec 32 := Scalar.addi c0_i32_690 v843
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_691 : BitVec 32 := 2#32
  let v845 : BitVec 32 := Scalar.muli v5 c2_i32_691
  let v846 : BitVec 32 := Scalar.addi v844 v845
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_692 : BitVec 32 := 1#32
  let v847 : BitVec 32 := Scalar.muli v8 c1_i32_692
  let v848 : BitVec 32 := Scalar.addi v846 v847
  v848.toNat
def k0_dev26 (d0 : Dev nD) : Nat :=
  let c0_i32_702 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_701 : BitVec 32 := 4#32
  let v858 : BitVec 32 := Scalar.muli v2 c4_i32_701
  let v859 : BitVec 32 := Scalar.addi c0_i32_702 v858
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_703 : BitVec 32 := 2#32
  let v860 : BitVec 32 := Scalar.muli v5 c2_i32_703
  let v861 : BitVec 32 := Scalar.addi v859 v860
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_704 : BitVec 32 := 1#32
  let v862 : BitVec 32 := Scalar.muli v11 c1_i32_704
  let v863 : BitVec 32 := Scalar.addi v861 v862
  v863.toNat
def k0_off5 (d0 : Dev nD) (c768_i32_726 : BitVec 32) : Fin 2 → Nat :=
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_10 v2
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.xori v5 v8
  let v21 : BitVec 32 := Scalar.subi c1_i32_11 v12
  let v22 : BitVec 32 := Scalar.addi v20 v21
  let c2048_i32_12 : BitVec 32 := 2048#32
  let v23 : BitVec 32 := Scalar.muli v22 c2048_i32_12
  let v889 : BitVec 32 := Scalar.addi v23 c768_i32_726
  let c0_i32_734 : BitVec 32 := 0#32
  ![v889.toNat, 0]
def k0_dev27 (d0 : Dev nD) : Nat :=
  let c0_i32_742 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_741 : BitVec 32 := 4#32
  let v903 : BitVec 32 := Scalar.muli v9 c4_i32_741
  let v904 : BitVec 32 := Scalar.addi c0_i32_742 v903
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_743 : BitVec 32 := 2#32
  let v905 : BitVec 32 := Scalar.muli v5 c2_i32_743
  let v906 : BitVec 32 := Scalar.addi v904 v905
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_744 : BitVec 32 := 1#32
  let v907 : BitVec 32 := Scalar.muli v8 c1_i32_744
  let v908 : BitVec 32 := Scalar.addi v906 v907
  v908.toNat
def k0_dev28 (d0 : Dev nD) : Nat :=
  let c0_i32_808 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_807 : BitVec 32 := 4#32
  let v983 : BitVec 32 := Scalar.muli v9 c4_i32_807
  let v984 : BitVec 32 := Scalar.addi c0_i32_808 v983
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_809 : BitVec 32 := 2#32
  let v985 : BitVec 32 := Scalar.muli v5 c2_i32_809
  let v986 : BitVec 32 := Scalar.addi v984 v985
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_810 : BitVec 32 := 1#32
  let v987 : BitVec 32 := Scalar.muli v8 c1_i32_810
  let v988 : BitVec 32 := Scalar.addi v986 v987
  v988.toNat
def k0_dev29 (d0 : Dev nD) : Nat :=
  let c0_i32_820 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_819 : BitVec 32 := 4#32
  let v998 : BitVec 32 := Scalar.muli v2 c4_i32_819
  let v999 : BitVec 32 := Scalar.addi c0_i32_820 v998
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_821 : BitVec 32 := 2#32
  let v1000 : BitVec 32 := Scalar.muli v5 c2_i32_821
  let v1001 : BitVec 32 := Scalar.addi v999 v1000
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_822 : BitVec 32 := 1#32
  let v1002 : BitVec 32 := Scalar.muli v11 c1_i32_822
  let v1003 : BitVec 32 := Scalar.addi v1001 v1002
  v1003.toNat
def k0_dev30 (d0 : Dev nD) : Nat :=
  let c0_i32_860 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_859 : BitVec 32 := 4#32
  let v1043 : BitVec 32 := Scalar.muli v9 c4_i32_859
  let v1044 : BitVec 32 := Scalar.addi c0_i32_860 v1043
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_861 : BitVec 32 := 2#32
  let v1045 : BitVec 32 := Scalar.muli v5 c2_i32_861
  let v1046 : BitVec 32 := Scalar.addi v1044 v1045
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_862 : BitVec 32 := 1#32
  let v1047 : BitVec 32 := Scalar.muli v8 c1_i32_862
  let v1048 : BitVec 32 := Scalar.addi v1046 v1047
  v1048.toNat
def k0_dev31 (d0 : Dev nD) : Nat :=
  let c0_i32_913 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_912 : BitVec 32 := 4#32
  let v1110 : BitVec 32 := Scalar.muli v9 c4_i32_912
  let v1111 : BitVec 32 := Scalar.addi c0_i32_913 v1110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_914 : BitVec 32 := 2#32
  let v1112 : BitVec 32 := Scalar.muli v5 c2_i32_914
  let v1113 : BitVec 32 := Scalar.addi v1111 v1112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_915 : BitVec 32 := 1#32
  let v1114 : BitVec 32 := Scalar.muli v8 c1_i32_915
  let v1115 : BitVec 32 := Scalar.addi v1113 v1114
  v1115.toNat
def k0_dev32 (d0 : Dev nD) : Nat :=
  let c0_i32_925 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_924 : BitVec 32 := 4#32
  let v1125 : BitVec 32 := Scalar.muli v2 c4_i32_924
  let v1126 : BitVec 32 := Scalar.addi c0_i32_925 v1125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_926 : BitVec 32 := 2#32
  let v1127 : BitVec 32 := Scalar.muli v5 c2_i32_926
  let v1128 : BitVec 32 := Scalar.addi v1126 v1127
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_927 : BitVec 32 := 1#32
  let v1129 : BitVec 32 := Scalar.muli v11 c1_i32_927
  let v1130 : BitVec 32 := Scalar.addi v1128 v1129
  v1130.toNat
def k0_dev33 (d0 : Dev nD) : Nat :=
  let c0_i32_954 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_953 : BitVec 32 := 4#32
  let v1157 : BitVec 32 := Scalar.muli v2 c4_i32_953
  let v1158 : BitVec 32 := Scalar.addi c0_i32_954 v1157
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_955 : BitVec 32 := 2#32
  let v1159 : BitVec 32 := Scalar.muli v5 c2_i32_955
  let v1160 : BitVec 32 := Scalar.addi v1158 v1159
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_956 : BitVec 32 := 1#32
  let v1161 : BitVec 32 := Scalar.muli v11 c1_i32_956
  let v1162 : BitVec 32 := Scalar.addi v1160 v1161
  v1162.toNat
def k0_dev34 (d0 : Dev nD) : Nat :=
  let c0_i32_976 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_975 : BitVec 32 := 4#32
  let v1184 : BitVec 32 := Scalar.muli v9 c4_i32_975
  let v1185 : BitVec 32 := Scalar.addi c0_i32_976 v1184
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_977 : BitVec 32 := 2#32
  let v1186 : BitVec 32 := Scalar.muli v5 c2_i32_977
  let v1187 : BitVec 32 := Scalar.addi v1185 v1186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_978 : BitVec 32 := 1#32
  let v1188 : BitVec 32 := Scalar.muli v8 c1_i32_978
  let v1189 : BitVec 32 := Scalar.addi v1187 v1188
  v1189.toNat
def k0_dev35 (d0 : Dev nD) : Nat :=
  let c0_i32_1004 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1003 : BitVec 32 := 4#32
  let v1215 : BitVec 32 := Scalar.muli v2 c4_i32_1003
  let v1216 : BitVec 32 := Scalar.addi c0_i32_1004 v1215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1005 : BitVec 32 := 2#32
  let v1217 : BitVec 32 := Scalar.muli v5 c2_i32_1005
  let v1218 : BitVec 32 := Scalar.addi v1216 v1217
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1006 : BitVec 32 := 1#32
  let v1219 : BitVec 32 := Scalar.muli v11 c1_i32_1006
  let v1220 : BitVec 32 := Scalar.addi v1218 v1219
  v1220.toNat
def k0_off6 (d0 : Dev nD) (c0_i32_1387 : BitVec 32) : Fin 2 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let v25 : BitVec 32 := Scalar.muli c2_i32_14 v24
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.xori v5 v8
  let v26 : BitVec 32 := Scalar.subi c1_i32_15 v12
  let v27 : BitVec 32 := Scalar.addi v25 v26
  let c2048_i32_16 : BitVec 32 := 2048#32
  let v28 : BitVec 32 := Scalar.muli v27 c2048_i32_16
  let v1541 : BitVec 32 := Scalar.addi v28 c0_i32_1387
  let c0_i32_1395 : BitVec 32 := 0#32
  ![v1541.toNat, 0]
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x2048 : Shape := ⟨3, ![2, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Ops.lean ====
/-
# The kernel as a list of operations

The printed kernel body is a straight line of copies, sends, waits, signals and, once per chunk, one computation.
This module names those operations by their chunk number, lists them in the order the kernel issues them, and shows
that the printed body runs exactly that list.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.Fused

open Cert.KernelIdeal Cert.KernelIdeal.Gen
open Idealize.ShloMosaic Idealize.ShloMosaic.TcCoe
open Idealize.SL Idealize.SL.Sem

variable {F : FTy → Type} [FloatOps F]

/-! ## Names -/

/-- The three directions of the cube in which a device has a neighbour. -/
inductive Dir where
  | x | y | z
  deriving DecidableEq

/-- The copies a device makes within itself: the two operand rows of chunk `j` into a staging slot (`pin`, `rin`),
    its own finished chunk (`acp`) and the chunk its `x` neighbour sent (`bcp`) into the output. -/
inductive Lc where
  | pin (j : Fin 8) | rin (j : Fin 8) | acp (j : Fin 8) | bcp (j : Fin 8)
  deriving DecidableEq

/-- The transfers a device addresses to a neighbour. -/
inductive Sd where
  | yp (j : Fin 8) | xs (j : Fin 8) | ya (i : Fin 3) | za (i : Fin 5) | zb (i : Fin 5) | xc (i : Fin 3)
  deriving DecidableEq

/-- One operation of the kernel: a local copy, a transfer, a signal, the wait on the barrier, a wait for a local
    copy, for a transfer's departure, for a transfer's arrival, or the computation of a chunk. -/
inductive Mi where
  | lcp (l : Lc) | snd (t : Sd) | sig (d : Dir) | bar | wL (l : Lc) | wS (t : Sd) | wR (t : Sd) | cmp (j : Fin 8)
  deriving DecidableEq

/-- The DMA semaphores of a device, by their use. -/
inductive Kc where
  | lp (s : Fin 2) | lr (s : Fin 2) | la (j : Fin 8) | lb (j : Fin 8) | sS (t : Sd) | sR (t : Sd)
  deriving DecidableEq

/-- Each kind of name listed in full. -/
instance : Fintype Dir := ⟨{.x, .y, .z}, fun d => by cases d <;> decide⟩
def Lc.all : List Lc :=
  (List.finRange 8).map .pin ++ (List.finRange 8).map .rin ++ (List.finRange 8).map .acp ++ (List.finRange 8).map .bcp
instance : Fintype Lc := ⟨⟨Lc.all, by decide +kernel⟩, fun l => by cases l <;> simp [Lc.all, List.mem_finRange]⟩
def Sd.all : List Sd :=
  (List.finRange 8).map .yp ++ (List.finRange 8).map .xs ++ (List.finRange 3).map .ya ++ (List.finRange 5).map .za
    ++ (List.finRange 5).map .zb ++ (List.finRange 3).map .xc
instance : Fintype Sd := ⟨⟨Sd.all, by decide +kernel⟩, fun t => by cases t <;> simp [Sd.all, List.mem_finRange]⟩
def Kc.all : List Kc :=
  (List.finRange 2).map .lp ++ (List.finRange 2).map .lr ++ (List.finRange 8).map .la ++ (List.finRange 8).map .lb
    ++ Sd.all.map .sS ++ Sd.all.map .sR
instance : Fintype Kc := ⟨⟨Kc.all, by decide +kernel⟩, fun k => by
  cases k with
  | sS t => cases t <;> simp [Kc.all, Sd.all, List.mem_finRange]
  | sR t => cases t <;> simp [Kc.all, Sd.all, List.mem_finRange]
  | _ => simp [Kc.all, List.mem_finRange]⟩

/-- The staging slot of a chunk. -/
def slot (j : Fin 8) : Fin 2 := ⟨j.val % 2, Nat.mod_lt _ (by decide)⟩
/-- The chunk the `i`-th transfer of kind `za` carries (`xc` the same). -/
def zaJ (i : Fin 5) : Fin 8 := ⟨i.val + 3, by omega⟩
def xcJ (i : Fin 3) : Fin 8 := ⟨i.val + 3, by omega⟩
def yaJ (i : Fin 3) : Fin 8 := ⟨i.val, by omega⟩
/-- The chunk the `i`-th transfer of kind `zb` carries. -/
def zbJ (i : Fin 5) : Fin 8 := ⟨i.val + 3 * (i.val / 3), by omega⟩

/-- The semaphore a local copy completes on. -/
def Lc.cell : Lc → Kc
  | .pin j => .lp (slot j) | .rin j => .lr (slot j) | .acp j => .la j | .bcp j => .lb j

/-! ## Memrefs and semaphores -/

abbrev W (j : Fin 8) : BitVec 32 := BitVec.ofNat 32 (256 * j.val)

/-- A slot of an eight-slot buffer lies in it, -/
theorem inb8 : ∀ j : Fin 8, ∀ a, (![j.val, 0, 0] : Fin 3 → Nat) a + S1x256x2048.size a ≤ S8x256x2048.size a := by decide
/-- and of a two-slot buffer. -/
theorem inb2 : ∀ s : Fin 2, ∀ a, (![s.val, 0, 0] : Fin 3 → Nat) a + S1x256x2048.size a ≤ S2x256x2048.size a := by decide
/-- An entry of an array of eight semaphores lies in it, -/
theorem inbs8 : ∀ j : Fin 8, ∀ a, (![j.val] : Fin 1 → Nat) a + S1.size a ≤ S8.size a := by decide
/-- of five, -/
theorem inbs5 : ∀ j : Fin 5, ∀ a, (![j.val] : Fin 1 → Nat) a + S1.size a ≤ S5.size a := by decide
/-- of three, -/
theorem inbs3 : ∀ j : Fin 3, ∀ a, (![j.val] : Fin 1 → Nat) a + S1.size a ≤ S3.size a := by decide
/-- and of two. -/
theorem inbs2 : ∀ j : Fin 2, ∀ a, (![j.val] : Fin 1 → Nat) a + S1.size a ≤ S2.size a := by decide

abbrev R8 (j : Fin 8) : Rect S8x256x2048 := Rect.unit (s := S8x256x2048) ![j.val, 0, 0] S1x256x2048.size (inb8 j)
abbrev R2 (s : Fin 2) : Rect S2x256x2048 := Rect.unit (s := S2x256x2048) ![s.val, 0, 0] S1x256x2048.size (inb2 s)

/-- Chunk `j` of one of the three eight-slot buffers, as a 256 × 2048 block. -/
abbrev at8 (b : Memref sig .tc .vmem S8x256x2048 .f32) (j : Fin 8) : Memref sig .tc .vmem S256x2048 .f32 :=
  (b.slice (R8 j) (fun _ => rfl)).squeeze S256x2048 squeezes_S1x256x2048_S256x2048
/-- Slot `s` of one of the two staging buffers. -/
abbrev at2 (b : Memref sig .tc .vmem S2x256x2048 .f32) (s : Fin 2) : Memref sig .tc .vmem S256x2048 .f32 :=
  (b.slice (R2 s) (fun _ => rfl)).squeeze S256x2048 squeezes_S1x256x2048_S256x2048
/-- 256 rows of `p`. -/
abbrev atP (o : Fin 3 → Nat) (h : ∀ a, o a + S1x256x2048.size a ≤ S1x8192x2048.size a) : Memref sig .tc .hbm S256x2048 .f32 :=
  ((Memref.whole main_arg0).slice (Rect.unit (s := S1x8192x2048) o S1x256x2048.size h) (fun _ => rfl)).squeeze S256x2048 squeezes_S1x256x2048_S256x2048
/-- 256 rows of a whole 8192-row array. -/
abbrev atH (b : Memref sig .tc .hbm S8192x2048 .f32) (o : Fin 2 → Nat) (h : ∀ a, o a + S256x2048.size a ≤ S8192x2048.size a) : Memref sig .tc .hbm S256x2048 .f32 :=
  b.slice (Rect.unit (s := S8192x2048) o S256x2048.size h) (fun _ => rfl)

abbrev rHbm : Memref sig .tc .hbm S8192x2048 .f32 := Memref.whole main_arg1
abbrev oHbm : Memref sig .tc .hbm S8192x2048 .f32 := Memref.whole main_v1
abbrev gVm : Memref sig .tc .vmem S2048 .f32 := Memref.whole cc0_stg0_0
abbrev precB : Memref sig .tc .vmem S8x256x2048 .f32 := Memref.whole cc0_scratch0
abbrev xrB : Memref sig .tc .vmem S8x256x2048 .f32 := Memref.whole cc0_scratch1
abbrev aB : Memref sig .tc .vmem S8x256x2048 .f32 := Memref.whole cc0_scratch2
abbrev psB : Memref sig .tc .vmem S2x256x2048 .f32 := Memref.whole cc0_scratch3
abbrev rsB : Memref sig .tc .vmem S2x256x2048 .f32 := Memref.whole cc0_scratch4

abbrev s8 (b : DmaSems sig S8) (j : Fin 8) : DmaSem sig := ((b.slice (Rect.unit (s := S8) ![j.val] S1.size (inbs8 j))).squeeze S_ squeezes_S1_S_).sem
abbrev s5 (b : DmaSems sig S5) (j : Fin 5) : DmaSem sig := ((b.slice (Rect.unit (s := S5) ![j.val] S1.size (inbs5 j))).squeeze S_ squeezes_S1_S_).sem
abbrev s3 (b : DmaSems sig S3) (j : Fin 3) : DmaSem sig := ((b.slice (Rect.unit (s := S3) ![j.val] S1.size (inbs3 j))).squeeze S_ squeezes_S1_S_).sem
abbrev s2 (b : DmaSems sig S2) (j : Fin 2) : DmaSem sig := ((b.slice (Rect.unit (s := S2) ![j.val] S1.size (inbs2 j))).squeeze S_ squeezes_S1_S_).sem

/-- The semaphore of a transfer's departure. -/
def Sd.semS : Sd → DmaSem sig
  | .yp j => s8 cc0_scratch5 j | .xs j => s8 cc0_scratch7 j | .ya i => s3 cc0_scratch9 i
  | .za i => s5 cc0_scratch11 i | .zb i => s5 cc0_scratch13 i | .xc i => s3 cc0_scratch15 i
/-- The semaphore of a transfer's arrival. -/
def Sd.semR : Sd → DmaSem sig
  | .yp j => s8 cc0_scratch6 j | .xs j => s8 cc0_scratch8 j | .ya i => s3 cc0_scratch10 i
  | .za i => s5 cc0_scratch12 i | .zb i => s5 cc0_scratch14 i | .xc i => s3 cc0_scratch16 i
/-- The DMA semaphore of a cell. -/
def Kc.sem : Kc → DmaSem sig
  | .lp s => s2 cc0_scratch17 s | .lr s => s2 cc0_scratch18 s | .la j => s8 cc0_scratch19 j | .lb j => s8 cc0_scratch20 j
  | .sS t => t.semS | .sR t => t.semR

/-- The barrier semaphore. -/
abbrev barS : Sem sig := (SemArray.scalar (sig.barrier 0 rfl) : Sems sig S_).sem

/-! ## The devices a transfer is addressed to, as the kernel computes them -/

def sigDev (d : Dir) (c : Dev nD) : Dev nD := match d with
  | .x => ⟨k0_dev1 c, k0_dev1_lt c⟩ | .y => ⟨k0_dev2 c, k0_dev2_lt c⟩ | .z => ⟨k0_dev3 c, k0_dev3_lt c⟩

def sndDev (t : Sd) (c : Dev nD) : Dev nD := match t with
  | .yp 0 => ⟨k0_dev4 c, k0_dev4_lt c⟩ | .yp 1 => ⟨k0_dev5 c, k0_dev5_lt c⟩ | .yp 2 => ⟨k0_dev6 c, k0_dev6_lt c⟩ | .yp 3 => ⟨k0_dev7 c, k0_dev7_lt c⟩
  | .yp 4 => ⟨k0_dev8 c, k0_dev8_lt c⟩ | .yp 5 => ⟨k0_dev9 c, k0_dev9_lt c⟩ | .yp 6 => ⟨k0_dev10 c, k0_dev10_lt c⟩ | .yp 7 => ⟨k0_dev11 c, k0_dev11_lt c⟩
  | .xs 0 => ⟨k0_dev12 c, k0_dev12_lt c⟩ | .xs 1 => ⟨k0_dev14 c, k0_dev14_lt c⟩ | .xs 2 => ⟨k0_dev17 c, k0_dev17_lt c⟩ | .xs 3 => ⟨k0_dev20 c, k0_dev20_lt c⟩
  | .xs 4 => ⟨k0_dev23 c, k0_dev23_lt c⟩ | .xs 5 => ⟨k0_dev25 c, k0_dev25_lt c⟩ | .xs 6 => ⟨k0_dev28 c, k0_dev28_lt c⟩ | .xs 7 => ⟨k0_dev31 c, k0_dev31_lt c⟩
  | .ya 0 => ⟨k0_dev13 c, k0_dev13_lt c⟩ | .ya 1 => ⟨k0_dev15 c, k0_dev15_lt c⟩ | .ya 2 => ⟨k0_dev18 c, k0_dev18_lt c⟩
  | .za 0 => ⟨k0_dev21 c, k0_dev21_lt c⟩ | .za 1 => ⟨k0_dev24 c, k0_dev24_lt c⟩ | .za 2 => ⟨k0_dev26 c, k0_dev26_lt c⟩ | .za 3 => ⟨k0_dev29 c, k0_dev29_lt c⟩ | .za 4 => ⟨k0_dev32 c, k0_dev32_lt c⟩
  | .zb 0 => ⟨k0_dev16 c, k0_dev16_lt c⟩ | .zb 1 => ⟨k0_dev19 c, k0_dev19_lt c⟩ | .zb 2 => ⟨k0_dev22 c, k0_dev22_lt c⟩ | .zb 3 => ⟨k0_dev33 c, k0_dev33_lt c⟩ | .zb 4 => ⟨k0_dev35 c, k0_dev35_lt c⟩
  | .xc 0 => ⟨k0_dev27 c, k0_dev27_lt c⟩ | .xc 1 => ⟨k0_dev30 c, k0_dev30_lt c⟩ | .xc 2 => ⟨k0_dev34 c, k0_dev34_lt c⟩

/-! ## The operations -/

abbrev PP (F : FTy → Type) [FloatOps F] : Type 1 := Prog (TpuEff nD τ sig (Elt F) Λ₀ .tc) PUnit

/-- The kernel's rows of `p` it keeps (`off1`) and gives its `y` neighbour (`off3`). -/
abbrev pOwn (c : Dev nD) (j : Fin 8) := atP (k0_off1 c (W j)) (k0_off1_inb c j)
abbrev pGive (c : Dev nD) (j : Fin 8) := atP (k0_off3 c (W j)) (k0_off3_inb c j)
abbrev rOwn (c : Dev nD) (j : Fin 8) := atH rHbm (k0_off2 c (W j)) (k0_off2_inb c j)
abbrev oA (c : Dev nD) (j : Fin 8) := atH oHbm (k0_off2 c (W j)) (k0_off2_inb c j)
abbrev oB (c : Dev nD) (j : Fin 8) := atH oHbm (k0_off4 c (W j)) (k0_off4_inb c j)
abbrev oC (c : Dev nD) (j : Fin 8) := atH oHbm (k0_off5 c (W j)) (k0_off5_inb c j)
abbrev oD (c : Dev nD) (j : Fin 8) := atH oHbm (k0_off6 c (W j)) (k0_off6_inb c j)

/-- A local copy. -/
def lcpP (c : Dev nD) : Lc → PP F
  | .pin j => Prog.lift (.enqueueDma (pOwn c j) (.here (at2 psB (slot j))) (.dma (s2 cc0_scratch17 (slot j))) ((View.wordExact_bits rfl).reshape _ _) ((View.wordExact_bits rfl).reshape _ _) ⟨Or.inl rfl, trivial⟩)
  | .rin j => Prog.lift (.enqueueDma (rOwn c j) (.here (at2 rsB (slot j))) (.dma (s2 cc0_scratch18 (slot j))) (View.wordExact_bits rfl) ((View.wordExact_bits rfl).reshape _ _) ⟨Or.inl rfl, trivial⟩)
  | .acp j => Prog.lift (.enqueueDma (at8 aB j) (.here (oA c j)) (.dma (s8 cc0_scratch19 j)) ((View.wordExact_bits rfl).reshape _ _) (View.wordExact_bits rfl) ⟨Or.inl rfl, trivial⟩)
  | .bcp j => Prog.lift (.enqueueDma (at8 xrB j) (.here (oB c j)) (.dma (s8 cc0_scratch20 j)) ((View.wordExact_bits rfl).reshape _ _) (View.wordExact_bits rfl) ⟨Or.inl rfl, trivial⟩)

/-- A transfer to a neighbour. -/
def sndP (c : Dev nD) : Sd → PP F
  | .yp j => Prog.lift (.enqueueDma (pGive c j) (.remote (Dev.tc (sndDev (.yp j) c)) (at8 precB j) (.dma (s8 cc0_scratch5 j))) (.dma (s8 cc0_scratch6 j)) ((View.wordExact_bits rfl).reshape _ _) ((View.wordExact_bits rfl).reshape _ _) ⟨⟨rfl, Or.inl rfl⟩, trivial⟩)
  | .xs j => Prog.lift (.enqueueDma (at8 aB j) (.remote (Dev.tc (sndDev (.xs j) c)) (at8 xrB j) (.dma (s8 cc0_scratch7 j))) (.dma (s8 cc0_scratch8 j)) ((View.wordExact_bits rfl).reshape _ _) ((View.wordExact_bits rfl).reshape _ _) ⟨⟨rfl, Or.inl rfl⟩, trivial⟩)
  | .ya i => Prog.lift (.enqueueDma (at8 aB (yaJ i)) (.remote (Dev.tc (sndDev (.ya i) c)) (oA c (yaJ i)) (.dma (s3 cc0_scratch9 i))) (.dma (s3 cc0_scratch10 i)) ((View.wordExact_bits rfl).reshape _ _) (View.wordExact_bits rfl) ⟨⟨rfl, Or.inl rfl⟩, trivial⟩)
  | .za i => Prog.lift (.enqueueDma (at8 aB (zaJ i)) (.remote (Dev.tc (sndDev (.za i) c)) (oA c (zaJ i)) (.dma (s5 cc0_scratch11 i))) (.dma (s5 cc0_scratch12 i)) ((View.wordExact_bits rfl).reshape _ _) (View.wordExact_bits rfl) ⟨⟨rfl, Or.inl rfl⟩, trivial⟩)
  | .zb i => Prog.lift (.enqueueDma (at8 xrB (zbJ i)) (.remote (Dev.tc (sndDev (.zb i) c)) (oB c (zbJ i)) (.dma (s5 cc0_scratch13 i))) (.dma (s5 cc0_scratch14 i)) ((View.wordExact_bits rfl).reshape _ _) (View.wordExact_bits rfl) ⟨⟨rfl, Or.inl rfl⟩, trivial⟩)
  | .xc i => Prog.lift (.enqueueDma (oC c (xcJ i)) (.remote (Dev.tc (sndDev (.xc i) c)) (oC c (xcJ i)) (.dma (s3 cc0_scratch15 i))) (.dma (s3 cc0_scratch16 i)) (View.wordExact_bits rfl) (View.wordExact_bits rfl) ⟨⟨rfl, Or.inl rfl⟩, trivial⟩)

/-- The wait for a local copy. -/
def wLP (c : Dev nD) : Lc → PP F
  | .pin j => Prog.lift (.waitDma2 (s2 cc0_scratch17 (slot j)) (pOwn c j) (at2 psB (slot j)) ((View.wordExact_bits rfl).reshape _ _) ((View.wordExact_bits rfl).reshape _ _))
  | .rin j => Prog.lift (.waitDma2 (s2 cc0_scratch18 (slot j)) (rOwn c j) (at2 rsB (slot j)) (View.wordExact_bits rfl) ((View.wordExact_bits rfl).reshape _ _))
  | .acp j => Prog.lift (.waitDma2 (s8 cc0_scratch19 j) (at8 aB j) (oA c j) ((View.wordExact_bits rfl).reshape _ _) (View.wordExact_bits rfl))
  | .bcp j => Prog.lift (.waitDma2 (s8 cc0_scratch20 j) (at8 xrB j) (oB c j) ((View.wordExact_bits rfl).reshape _ _) (View.wordExact_bits rfl))

/-- The wait for a transfer's departure. -/
def wSP (c : Dev nD) : Sd → PP F
  | .yp j => Prog.lift (.waitDma2 (s8 cc0_scratch5 j) (at8 precB j) (pGive c j) ((View.wordExact_bits rfl).reshape _ _) ((View.wordExact_bits rfl).reshape _ _))
  | .xs j => Prog.lift (.waitDma2 (s8 cc0_scratch7 j) (at8 xrB j) (at8 aB j) ((View.wordExact_bits rfl).reshape _ _) ((View.wordExact_bits rfl).reshape _ _))
  | .ya i => Prog.lift (.waitDma2 (s3 cc0_scratch9 i) (oA c (yaJ i)) (at8 aB (yaJ i)) (View.wordExact_bits rfl) ((View.wordExact_bits rfl).reshape _ _))
  | .za i => Prog.lift (.waitDma2 (s5 cc0_scratch11 i) (oA c (zaJ i)) (at8 aB (zaJ i)) (View.wordExact_bits rfl) ((View.wordExact_bits rfl).reshape _ _))
  | .zb i => Prog.lift (.waitDma2 (s5 cc0_scratch13 i) (oB c (zbJ i)) (at8 xrB (zbJ i)) (View.wordExact_bits rfl) ((View.wordExact_bits rfl).reshape _ _))
  | .xc i => Prog.lift (.waitDma2 (s3 cc0_scratch15 i) (oC c (xcJ i)) (oC c (xcJ i)) (View.wordExact_bits rfl) (View.wordExact_bits rfl))

/-- The wait for a transfer's arrival. -/
def wRP (c : Dev nD) : Sd → PP F
  | .yp j => Prog.lift (.waitDma2 (s8 cc0_scratch6 j) (pGive c j) (at8 precB j) ((View.wordExact_bits rfl).reshape _ _) ((View.wordExact_bits rfl).reshape _ _))
  | .xs j => Prog.lift (.waitDma2 (s8 cc0_scratch8 j) (at8 aB j) (at8 xrB j) ((View.wordExact_bits rfl).reshape _ _) ((View.wordExact_bits rfl).reshape _ _))
  | .ya i => Prog.lift (.waitDma2 (s3 cc0_scratch10 i) (at8 aB 0) (oC c (yaJ i)) ((View.wordExact_bits rfl).reshape _ _) (View.wordExact_bits rfl))
  | .za i => Prog.lift (.waitDma2 (s5 cc0_scratch12 i) (at8 aB 0) (oC c (zaJ i)) ((View.wordExact_bits rfl).reshape _ _) (View.wordExact_bits rfl))
  | .zb i => Prog.lift (.waitDma2 (s5 cc0_scratch14 i) (at8 aB 0) (oD c (zbJ i)) ((View.wordExact_bits rfl).reshape _ _) (View.wordExact_bits rfl))
  | .xc i => Prog.lift (.waitDma2 (s3 cc0_scratch16 i) (at8 aB 0) (oD c (xcJ i)) ((View.wordExact_bits rfl).reshape _ _) (View.wordExact_bits rfl))

/-- The computation of chunk `j`: load the staged rows, the rows received, the residual rows and the scale; store the
    finished chunk. -/
def cmpP (j : Fin 8) : PP F := do
  let a : Vec F S1x256x2048 .f32 ← Prog.lift (.load psB (R2 (slot j)).toLoadRect (View.loadsAt_vmem h_S1x256x2048))
  let b : Vec F S1x256x2048 .f32 ← Prog.lift (.load precB (R8 j).toLoadRect (View.loadsAt_vmem h_S1x256x2048))
  let r : Vec F S1x256x2048 .f32 ← Prog.lift (.load rsB (R2 (slot j)).toLoadRect (View.loadsAt_vmem h_S1x256x2048))
  let g : Vec F S2048 .f32 ← Prog.lift (.load gVm (Rect.unit (s := S2048) ![0] S2048.size inb_S2048_S2048_0).toLoadRect (View.loadsAt_vmem h_S2048))
  let _ : Vec F S1x256x2048 .f32 ← Prog.lift (.load aB (R8 j).toLoadRect (View.loadsAt_vmem h_S1x256x2048))
  Prog.lift (.store aB (R8 j) (k0_pay1 a b r g) Finset.univ (View.stores_vmem_bits_univ h_S1x256x2048 rfl) (.inl rfl))

/-- An operation as the kernel runs it on device `c`. -/
def Mi.prog (c : Dev nD) : Mi → PP F
  | .lcp l => lcpP c l
  | .snd t => sndP c t
  | .sig d => semSignalWord (sigDev d c) barS 1#32
  | .bar => semWaitWord barS 3#32
  | .wL l => wLP c l
  | .wS t => wSP c t
  | .wR t => wRP c t
  | .cmp j => cmpP j

/-- Operations one after another. -/
def seqAll (c : Dev nD) : List Mi → PP F
  | [] => pure ⟨⟩
  | μ :: l => do
    Mi.prog c μ
    seqAll c l

/-! ## The kernel's order -/

/-- Stage chunk `j`'s rows. -/
def stage (j : Fin 8) : List Mi := [.lcp (.pin j), .lcp (.rin j)]
/-- Finish chunk `j` and send it out. -/
def work (j : Fin 8) (t : Sd) : List Mi :=
  [.wL (.pin j), .wL (.rin j), .wR (.yp j), .cmp j, .lcp (.acp j), .snd (.xs j), .snd t]
/-- Pass on chunk `b` received from the `x` neighbour. -/
def fwdB (b : Fin 8) (z : List Mi) : List Mi := .wR (.xs b) :: .lcp (.bcp b) :: z
/-- Pass on a chunk received from the `z` neighbour. -/
def fwdC (i : Fin 3) : List Mi := [.wR (.za ⟨i.val, by omega⟩), .snd (.xc i)]
/-- Wait for what chunk `j` left running. -/
def drain (j : Fin 8) (z : List Mi) : List Mi := .wL (.acp j) :: .wL (.bcp j) :: (z ++ [.wS (.yp j)])

/-- The operations up to the first computation. -/
def ops1 : List Mi :=
  stage 0 ++ [.sig .x, .sig .y, .sig .z, .bar,
    .snd (.yp 0), .snd (.yp 1), .snd (.yp 2), .snd (.yp 3), .snd (.yp 4), .snd (.yp 5), .snd (.yp 6), .snd (.yp 7)]
/-- The eight chunks. -/
def ops2 : List Mi :=
  stage 1 ++ work 0 (.ya 0)
  ++ (stage 2 ++ work 1 (.ya 1) ++ fwdB 0 [.snd (.zb 0)])
  ++ (stage 3 ++ work 2 (.ya 2) ++ fwdB 1 [.snd (.zb 1)])
  ++ (stage 4 ++ work 3 (.za 0) ++ fwdB 2 [.snd (.zb 2)])
  ++ (stage 5 ++ work 4 (.za 1) ++ fwdB 3 [])
  ++ (stage 6 ++ work 5 (.za 2) ++ fwdB 4 [] ++ fwdC 0)
  ++ (stage 7 ++ work 6 (.za 3) ++ fwdB 5 [] ++ fwdC 1)
  ++ (work 7 (.za 4) ++ fwdB 6 [.snd (.zb 3)] ++ fwdC 2)
  ++ fwdB 7 [.snd (.zb 4)]
/-- The waits at the end. -/
def ops3 : List Mi :=
  drain 0 [.wS (.zb 0)] ++ drain 1 [.wS (.zb 1)] ++ drain 2 [.wS (.zb 2)] ++ drain 3 [] ++ drain 4 [] ++ drain 5 []
  ++ drain 6 [.wS (.zb 3)] ++ drain 7 [.wS (.zb 4)]
  ++ [.wS (.xc 0), .wS (.xc 1), .wS (.xc 2),
    .wS (.xs 0), .wS (.ya 0), .wS (.xs 1), .wS (.ya 1), .wS (.xs 2), .wS (.ya 2), .wS (.xs 3), .wS (.za 0),
    .wS (.xs 4), .wS (.za 1), .wS (.xs 5), .wS (.za 2), .wS (.xs 6), .wS (.za 3), .wS (.xs 7), .wS (.za 4),
    .wR (.ya 0), .wR (.ya 1), .wR (.ya 2), .wR (.za 3), .wR (.za 4),
    .wR (.zb 0), .wR (.zb 1), .wR (.zb 2), .wR (.zb 3), .wR (.zb 4), .wR (.xc 0), .wR (.xc 1), .wR (.xc 2)]
/-- All of the kernel's operations, in its order. -/
def ops : List Mi := ops1 ++ (ops2 ++ ops3)

/-- The kernel body as the pipeline calls it. -/
abbrev kbody (F : FTy → Type) [FloatOps F] : PP F :=
  cc0_body (F := F) (Memref.whole main_arg0) (Memref.isWhole_whole _) (Memref.whole main_arg1) (Memref.isWhole_whole _)
    (Memref.whole cc0_stg0_0) (Memref.isWhole_whole _) (Memref.whole main_v1) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _)
    cc0_scratch5 cc0_scratch6 cc0_scratch7 cc0_scratch8 cc0_scratch9 cc0_scratch10 cc0_scratch11 cc0_scratch12
    cc0_scratch13 cc0_scratch14 cc0_scratch15 cc0_scratch16 cc0_scratch17 cc0_scratch18 cc0_scratch19 cc0_scratch20

set_option maxRecDepth 65536 in
set_option maxHeartbeats 4000000 in
/-- The printed body reads the device's number and then runs the list. -/
theorem kbody_eq : kbody F = (Prog.lift .deviceId >>= fun c => seqAll c ops) := by
  rfl

end Cert.Fused

end
-- ==== Proof.Plan.lean ====
/-
# The protocol in names

Which buffers, values and semaphores every operation of the kernel takes and leaves, by name alone: nothing here
speaks of memory contents. The order of the kernel is checked against these names by computation.
-/
module

public import proofs.«01_k».proof.Proof.Ops

@[expose] public section

noncomputable section

namespace Cert.Fused

open Cert.KernelIdeal Cert.KernelIdeal.Gen
open Idealize.ShloMosaic Idealize.ShloMosaic.TcCoe

/-! ## Places and values -/

/-- A 256 × 2048 place on a device: chunk `j` of the device's quarter `q` of `p`, of the residual or of the output
    (quarters as the device orders them: its own, its `x` neighbour's, its `y` and `z` neighbours', the remaining
    one), a slot of one of the three eight-slot buffers, or a staging slot. -/
inductive Lo where
  | p (q : Fin 4) (j : Fin 8) | r (q : Fin 4) (j : Fin 8) | o (q : Fin 4) (j : Fin 8)
  | prec (j : Fin 8) | xr (j : Fin 8) | ab (j : Fin 8) | ps (s : Fin 2) | rs (s : Fin 2)
  deriving DecidableEq

/-- What a place holds: a chunk of `p`, of the residual, of `p` as the `y` neighbour holds it, or a finished chunk
    of quarter `q`. -/
inductive Va where
  | pv (q : Fin 4) (j : Fin 8) | rv (q : Fin 4) (j : Fin 8) | yv (j : Fin 8) | fin (q : Fin 4) (j : Fin 8)
  deriving DecidableEq

/-- The parts a place's share is split into: the whole, its left half, its right half and that half's halves. -/
inductive Sh where
  | full | l | r | rl | rr
  deriving DecidableEq

/-- A piece of memory: a place holding anything, a share of a place holding a named value, or a place of the
    neighbour in direction `d` holding anything. -/
inductive MR where
  | any (l : Lo) | own (l : Lo) (v : Va) (s : Sh) | nbr (d : Dir) (l : Lo)
  deriving DecidableEq

/-- What a device may hold: memory, the right to complete a local copy, a transfer's departure, its arrival or a
    signal, its position at a semaphore (`none`: the barrier), the record that a semaphore's round is reached, the
    credit for a wait, and the scale vector. -/
inductive Res where
  | mr (x : MR) | tokL (l : Lc) | tokS (t : Sd) | tokR (t : Sd) | tokB (d : Dir)
  | pos (k : Option Kc) (n : ℕ) | rch (k : Kc) (n : ℕ) | crd (k : Option Kc) | gam
  deriving DecidableEq

/-! ## Local copies -/

/-- The round of its semaphore that a local copy completes: a staging slot is used by every second chunk. -/
def Lc.round : Lc → ℕ
  | .pin j => j.val / 2 | .rin j => j.val / 2 | .acp _ => 0 | .bcp _ => 0
def Lc.src : Lc → Lo
  | .pin j => .p 0 j | .rin j => .r 0 j | .acp j => .ab j | .bcp j => .xr j
def Lc.dst : Lc → Lo
  | .pin j => .ps (slot j) | .rin j => .rs (slot j) | .acp j => .o 0 j | .bcp j => .o 1 j
def Lc.val : Lc → Va
  | .pin j => .pv 0 j | .rin j => .rv 0 j | .acp j => .fin 0 j | .bcp j => .fin 1 j
def Lc.sh : Lc → Sh
  | .pin _ => .full | .rin _ => .full | .acp _ => .l | .bcp _ => .l
def Lc.pay (l : Lc) : List MR := [.own l.dst l.val .full, .own l.src l.val l.sh]
/-- The local copy that completes round `n` of a semaphore. -/
def Kc.copy : Kc → ℕ → Option Lc
  | .lp s, n => if h : 2 * n + s.val < 8 then some (.pin ⟨2 * n + s.val, h⟩) else none
  | .lr s, n => if h : 2 * n + s.val < 8 then some (.rin ⟨2 * n + s.val, h⟩) else none
  | .la j, 0 => some (.acp j)
  | .lb j, 0 => some (.bcp j)
  | _, _ => none

/-! ## Transfers -/

def Sd.dir : Sd → Dir
  | .yp _ => .y | .xs _ => .x | .ya _ => .y | .za _ => .z | .zb _ => .z | .xc _ => .x
def Sd.src : Sd → Lo
  | .yp j => .p 2 j | .xs j => .ab j | .ya i => .ab (yaJ i) | .za i => .ab (zaJ i) | .zb i => .xr (zbJ i) | .xc i => .o 2 (xcJ i)
/-- The value sent, as the sender names it, -/
def Sd.sval : Sd → Va
  | .yp j => .pv 2 j | .xs j => .fin 0 j | .ya i => .fin 0 (yaJ i) | .za i => .fin 0 (zaJ i) | .zb i => .fin 1 (zbJ i) | .xc i => .fin 2 (xcJ i)
def Sd.sh : Sd → Sh
  | .yp _ => .full | .xs _ => .rl | .ya _ => .rr | .za _ => .rr | .zb _ => .r | .xc _ => .full
/-- the place it arrives at, as the receiver names it, and the value so. -/
def Sd.dst : Sd → Lo
  | .yp j => .prec j | .xs j => .xr j | .ya i => .o 2 (yaJ i) | .za i => .o 2 (zaJ i) | .zb i => .o 3 (zbJ i) | .xc i => .o 3 (xcJ i)
def Sd.rval : Sd → Va
  | .yp j => .yv j | .xs j => .fin 1 j | .ya i => .fin 2 (yaJ i) | .za i => .fin 2 (zaJ i) | .zb i => .fin 3 (zbJ i) | .xc i => .fin 3 (xcJ i)
/-- The shares the arriving place is handed over in. -/
def Sd.halves : Sd → Bool
  | .xs _ => true | _ => false
def Sd.payS (t : Sd) : List MR := [.own t.src t.sval t.sh]
def Sd.payR (t : Sd) : List MR :=
  bif t.halves then [.own t.dst t.rval .l, .own t.dst t.rval .r] else [.own t.dst t.rval .full]

/-- The places a device lends its neighbour in direction `d` with its signal: where that neighbour's transfers
    arrive. -/
def grant (d : Dir) : List Lo := (Sd.all.filter fun t => t.dir = d).map Sd.dst

/-! ## Rounds of a semaphore -/

/-- How many rounds a DMA semaphore goes through. -/
def Kc.rounds : Kc → ℕ
  | .lp _ => 4 | .lr _ => 4 | _ => 1
/-- What completing round `n` of a DMA semaphore hands its owner. -/
def Kc.pay (k : Kc) (n : ℕ) : List MR := match k with
  | .sS t => t.payS
  | .sR t => t.payR
  | k => match k.copy n with
    | some l => l.pay
    | none => []

/-! ## What an operation takes and leaves -/

def Mi.pre : Mi → List Res
  | .lcp l => [.mr (.own l.src l.val l.sh), .mr (.any l.dst), .tokL l, .rch l.cell l.round]
  | .snd t => [.mr (.own t.src t.sval t.sh), .mr (.nbr t.dir t.dst), .tokS t, .tokR t]
  | .sig d => .tokB d :: (grant d).map fun l => .mr (.any l)
  | .bar => [.crd none, .pos none 0]
  | .wL l => [.crd (some l.cell), .pos (some l.cell) l.round]
  | .wS t => [.crd (some (.sS t)), .pos (some (.sS t)) 0]
  | .wR t => [.crd (some (.sR t)), .pos (some (.sR t)) 0]
  | .cmp j => [.mr (.own (.ps (slot j)) (.pv 0 j) .full), .mr (.own (.prec j) (.yv j) .full),
      .mr (.own (.rs (slot j)) (.rv 0 j) .full), .gam, .mr (.any (.ab j))]

def Mi.post : Mi → List Res
  | .lcp l => [.crd (some l.cell)]
  | .snd t => [.crd (some (.sS t))]
  | .sig _ => []
  | .bar => .pos none 1 :: ((grant .x).map (fun l => .mr (.nbr .x l)) ++ ((grant .y).map (fun l => .mr (.nbr .y l))
      ++ (grant .z).map (fun l => .mr (.nbr .z l))))
  | .wL l => .pos (some l.cell) (l.round + 1) :: .rch l.cell (l.round + 1) :: l.pay.map .mr
  | .wS t => .pos (some (.sS t)) 1 :: t.payS.map .mr
  | .wR t => .pos (some (.sR t)) 1 :: t.payR.map .mr
  | .cmp j => [.mr (.any (.ps (slot j))), .mr (.any (.prec j)), .mr (.any (.rs (slot j))), .gam,
      .mr (.own (.ab j) (.fin 0 j) .l), .mr (.own (.ab j) (.fin 0 j) .rl), .mr (.own (.ab j) (.fin 0 j) .rr)]

/-! ## The order of waits -/

/-- A semaphore's rank: a device waits at a rank only while what it owes others ranks higher. -/
def Sd.rank : Sd → ℕ
  | .yp _ => 2 | .xs j => 10 + j.val | .ya i => 10 + (yaJ i).val | .za i => 10 + (zaJ i).val | .zb _ => 100 | .xc _ => 100
/-- What an operation pays off, with its rank. -/
def Mi.owedRank : Mi → Option ℕ
  | .sig _ => some 1 | .snd t => some t.rank | _ => none
def Mi.waitRank : Mi → Option ℕ
  | .bar => some 1 | .wL _ => some 0 | .wS _ => some 0 | .wR t => some t.rank | _ => none
/-- An operation may run before the operations `l`: if it waits, they owe only at higher ranks. -/
def waitOk (μ : Mi) (l : List Mi) : Bool := match μ.waitRank with
  | none => true
  | some w => l.all fun μ' => match μ'.owedRank with
    | none => true
    | some n => decide (w < n)

/-! ## Running the names -/

/-- Take `r` out of `S`. -/
def takeOne (S : List Res) (r : Res) : Option (List Res) := if r ∈ S then some (S.erase r) else none
/-- Take a list out of `S`. -/
def takeAll : List Res → List Res → Option (List Res)
  | S, [] => some S
  | S, r :: R => (takeOne S r).bind fun S' => takeAll S' R
/-- Run operations on the names held. -/
def runOps : List Mi → List Res → Option (List Res)
  | [], S => some S
  | μ :: l, S => bif waitOk μ l then (takeAll S μ.pre).bind fun S' => runOps l (μ.post ++ S') else none

/-- The places of a device's three arrays. -/
def tiles : List (Fin 4 × Fin 8) := (List.finRange 4).flatMap fun q => (List.finRange 8).map fun j => (q, j)
/-- The names of the buffers in `VMEM`. -/
def scratch : List Lo :=
  [.ps 0, .ps 1, .rs 0, .rs 1] ++ (List.finRange 8).map .ab ++ (List.finRange 8).map .xr ++ (List.finRange 8).map .prec

/-- What a device holds when the kernel starts: its memory, -/
def initMem : List Res :=
  (scratch.map fun l => .mr (.any l)) ++ (tiles.map fun a => .mr (.own (.p a.1 a.2) (.pv a.1 a.2) .full))
    ++ (tiles.map fun a => .mr (.own (.r a.1 a.2) (.rv a.1 a.2) .full)) ++ tiles.map fun a => .mr (.any (.o a.1 a.2))
/-- and the rest. -/
def initGhost : List Res :=
  [.gam, .crd none, .tokB .x, .tokB .y, .tokB .z] ++ Lc.all.map .tokL ++ Sd.all.map .tokS ++ Sd.all.map .tokR
    ++ (Sd.all.map fun t => .crd (some (.sR t))) ++ (.pos none 0 :: Kc.all.map fun k => .pos (some k) 0)
    ++ Kc.all.map fun k => .rch k 0
/-- What it holds at the end: -/
def finMem : List Res :=
  ([.ps 0, .ps 1, .rs 0, .rs 1].map fun l => .mr (.any l)) ++ ((List.finRange 8).map fun j => .mr (.any (.prec j)))
    ++ ((List.finRange 8).flatMap fun j => [.mr (.own (.ab j) (.fin 0 j) .l), .mr (.own (.ab j) (.fin 0 j) .rl), .mr (.own (.ab j) (.fin 0 j) .rr)])
    ++ ((List.finRange 8).flatMap fun j => [.mr (.own (.xr j) (.fin 1 j) .l), .mr (.own (.xr j) (.fin 1 j) .r)])
    ++ (tiles.map fun a => .mr (.own (.p a.1 a.2) (.pv a.1 a.2) .full))
    ++ (tiles.map fun a => .mr (.own (.r a.1 a.2) (.rv a.1 a.2) .full))
    ++ tiles.map fun a => .mr (.own (.o a.1 a.2) (.fin a.1 a.2) .full)
def finGhost : List Res := .gam :: .pos none 1 :: Kc.all.map fun k => .pos (some k) k.rounds

/-- The kernel's order runs on what a device holds at the start, and leaves what it is to hold at the end. -/
def planOk : Bool := ((runOps ops (initGhost ++ initMem)).bind fun S => takeAll S (finGhost ++ finMem)).isSome

set_option maxRecDepth 100000 in
/-- The plan works. -/
theorem planOk_eq : planOk = true := by decide +kernel

end Cert.Fused

end
-- ==== Proof.Sched.lean ====
/-
# The names read as memory, and the schedule of the semaphores

A place is a view of one of the kernel's buffers, a value is computed from the arrays the run starts from, and a
piece of memory is ownership of the place at the value. A semaphore's schedule says how many rounds it goes through
and which pieces of memory each round hands its owner.
-/
module

public import proofs.«01_k».proof.Proof.Plan
public import Idealize.ShloMosaic.Lib.Pipeline.Launch
public import Idealize.ShloMosaic.Lib.Pipeline.Kit
public import Idealize.ShloMosaic.Lib.Pipeline.Value
public import Idealize.ShloMosaic.Lib.MemrefSat

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost state: the pipeline's, and the rounds of the kernel's own semaphores with a direction for a duty. -/
abbrev UU : Type := UR sig nD τ × URounds (GSem nD τ sig) Dir

local notation "𝕄" => MT nD τ sig Unit (Elt F) ℕ UU ℕ

abbrev EP : Emb (UR sig nD τ) (MT nD τ sig Unit (Elt F) ℕ UU ℕ) := embL
abbrev ER : Emb (URounds (GSem nD τ sig) Dir) (MT nD τ sig Unit (Elt F) ℕ UU ℕ) := embR

variable (m : (ℓ : Loc nD τ sig) → Buf (Elt F) ℓ)

/-! ## The cube -/

/-- Device `4x + 2y + z`'s neighbours. -/
def nb (d : Dir) (c : Dev nD) : Dev nD := match d with
  | .x => (![4, 5, 6, 7, 0, 1, 2, 3] : Fin 8 → Fin 8) c
  | .y => (![2, 3, 0, 1, 6, 7, 4, 5] : Fin 8 → Fin 8) c
  | .z => (![1, 0, 3, 2, 5, 4, 7, 6] : Fin 8 → Fin 8) c

/-- A neighbour's neighbour is the device. -/
theorem nb_nb : ∀ (d : Dir) (c : Dev nD), nb d (nb d c) = c := by decide
/-- Going over x and over z commutes. -/
theorem nb_comm : ∀ (c : Dev nD), nb .z (nb .x c) = nb .x (nb .z c) := by decide
/-- A barrier signal goes to the neighbour, -/
theorem sigDev_eq : ∀ (d : Dir) (c : Dev nD), sigDev d c = nb d c := by decide +kernel
/-- and so does a transfer. -/
theorem sndDev_eq : ∀ (t : Sd) (c : Dev nD), sndDev t c = nb t.dir c := by decide +kernel

/-- Which quarter of the 8192 rows a device's quarter `q` is. -/
def quarter (c : Dev nD) (q : Fin 4) : Fin 4 :=
  (![![0, 2, 1, 3], ![1, 3, 0, 2], ![1, 3, 0, 2], ![0, 2, 1, 3],
     ![2, 0, 3, 1], ![3, 1, 2, 0], ![3, 1, 2, 0], ![2, 0, 3, 1]] : Fin 8 → Fin 4 → Fin 4) c q

/-- A device's four quarters are different, -/
theorem quarter_inj : ∀ (c : Dev nD) (q q' : Fin 4), quarter c q = quarter c q' → q = q' := by decide
/-- and they are all of them. -/
theorem quarter_surj : ∀ (c : Dev nD) (k : Fin 4), ∃ q, quarter c q = k := by decide

/-- The first row of chunk `j` of a device's quarter `q`. -/
def row (c : Dev nD) (q : Fin 4) (j : Fin 8) : ℕ := 2048 * (quarter c q).val + 256 * j.val
abbrev offP (c : Dev nD) (q : Fin 4) (j : Fin 8) : Fin 3 → ℕ := ![0, row c q j, 0]
abbrev offH (c : Dev nD) (q : Fin 4) (j : Fin 8) : Fin 2 → ℕ := ![row c q j, 0]

/-- A chunk of `p` lies in `p`, -/
theorem offP_inb (c : Dev nD) (q : Fin 4) (j : Fin 8) : ∀ a, offP c q j a + S1x256x2048.size a ≤ S1x8192x2048.size a := by
  intro a; fin_cases a
  · exact (by decide : 0 + 1 ≤ 1)
  · show row c q j + 256 ≤ 8192
    unfold row; omega
  · exact (by decide : 0 + 2048 ≤ 2048)
/-- and a chunk of rows in the array. -/
theorem offH_inb (c : Dev nD) (q : Fin 4) (j : Fin 8) : ∀ a, offH c q j a + S256x2048.size a ≤ S8192x2048.size a := by
  intro a; fin_cases a
  · show row c q j + 256 ≤ 8192
    unfold row; omega
  · exact (by decide : 0 + 2048 ≤ 2048)

/-- The offsets that the kernel computes are those of the quarters: its own, of `p`, -/
theorem off1_eq : ∀ (c : Dev nD) (j : Fin 8), k0_off1 c (W j) = offP c 0 j := by
  intro c j; funext a; revert c j a; decide +kernel
/-- its own, of rows, -/
theorem off2_eq : ∀ (c : Dev nD) (j : Fin 8), k0_off2 c (W j) = offH c 0 j := by
  intro c j; funext a; revert c j a; decide +kernel
/-- the one given away, of `p`, -/
theorem off3_eq : ∀ (c : Dev nD) (j : Fin 8), k0_off3 c (W j) = offP c 2 j := by
  intro c j; funext a; revert c j a; decide +kernel
/-- the x neighbour's, -/
theorem off4_eq : ∀ (c : Dev nD) (j : Fin 8), k0_off4 c (W j) = offH c 1 j := by
  intro c j; funext a; revert c j a; decide +kernel
/-- the y and z neighbours', -/
theorem off5_eq : ∀ (c : Dev nD) (j : Fin 8), k0_off5 c (W j) = offH c 2 j := by
  intro c j; funext a; revert c j a; decide +kernel
/-- and the one across. -/
theorem off6_eq : ∀ (c : Dev nD) (j : Fin 8), k0_off6 c (W j) = offH c 3 j := by
  intro c j; funext a; revert c j a; decide +kernel

/-! ## Places -/

abbrev Lo.sp : Lo → Space
  | .p _ _ => .hbm | .r _ _ => .hbm | .o _ _ => .hbm | .prec _ => .vmem | .xr _ => .vmem | .ab _ => .vmem | .ps _ => .vmem | .rs _ => .vmem

/-- A place as a view of a buffer of device `c`. -/
def Lo.mem (c : Dev nD) : (l : Lo) → Memref sig .tc l.sp S256x2048 .f32
  | .p q j => atP (offP c q j) (offP_inb c q j)
  | .r q j => atH rHbm (offH c q j) (offH_inb c q j)
  | .o q j => atH oHbm (offH c q j) (offH_inb c q j)
  | .prec j => at8 precB j
  | .xr j => at8 xrB j
  | .ab j => at8 aB j
  | .ps s => at2 psB s
  | .rs s => at2 rsB s

/-- Equal offsets are one place of `p`, -/
theorem atP_congr {o o' : Fin 3 → ℕ} (e : o = o') (h) (h') : atP o h = atP o' h' := by subst e; rfl
/-- and one place of an array of rows. -/
theorem atH_congr (b : Memref sig .tc .hbm S8192x2048 .f32) {o o' : Fin 2 → ℕ} (e : o = o') (h) (h') : atH b o h = atH b o' h' := by subst e; rfl

/-- The places as the kernel names them are the places as the plan names them: `p`, kept, -/
theorem pOwn_eq (c : Dev nD) (j : Fin 8) : pOwn c j = Lo.mem c (.p 0 j) := atP_congr (off1_eq c j) _ _
/-- `p`, given away, -/
theorem pGive_eq (c : Dev nD) (j : Fin 8) : pGive c j = Lo.mem c (.p 2 j) := atP_congr (off3_eq c j) _ _
/-- the residual, -/
theorem rOwn_eq (c : Dev nD) (j : Fin 8) : rOwn c j = Lo.mem c (.r 0 j) := atH_congr _ (off2_eq c j) _ _
/-- the result's own quarter, -/
theorem oA_eq (c : Dev nD) (j : Fin 8) : oA c j = Lo.mem c (.o 0 j) := atH_congr _ (off2_eq c j) _ _
/-- the one from x, -/
theorem oB_eq (c : Dev nD) (j : Fin 8) : oB c j = Lo.mem c (.o 1 j) := atH_congr _ (off4_eq c j) _ _
/-- the one from y and z, -/
theorem oC_eq (c : Dev nD) (j : Fin 8) : oC c j = Lo.mem c (.o 2 j) := atH_congr _ (off5_eq c j) _ _
/-- and the last. -/
theorem oD_eq (c : Dev nD) (j : Fin 8) : oD c j = Lo.mem c (.o 3 j) := atH_congr _ (off6_eq c j) _ _

/-- The rows a transfer into the output is addressed to are the receiver's rows of the quarter it arrives in. -/
theorem quarter_ya : ∀ c : Dev nD, quarter (nb .y c) 2 = quarter c 0 := by decide
/-- The quarters that a sender and its receiver name alike: over z, -/
theorem quarter_za : ∀ c : Dev nD, quarter (nb .z c) 2 = quarter c 0 := by decide
/-- over z, forwarded, -/
theorem quarter_zb : ∀ c : Dev nD, quarter (nb .z c) 3 = quarter c 1 := by decide
/-- over x, forwarded, -/
theorem quarter_xc : ∀ c : Dev nD, quarter (nb .x c) 3 = quarter c 2 := by decide
/-- over y, -/
theorem quarter_yp : ∀ c : Dev nD, quarter (nb .y c) 2 = quarter c 0 := by decide
/-- and over x. -/
theorem quarter_x : ∀ c : Dev nD, quarter (nb .x c) 0 = quarter c 1 := by decide

/-- One quarter is one place of the result, whoever names it. -/
theorem mem_o_congr {c c' : Dev nD} {q q' : Fin 4} (h : quarter c' q' = quarter c q) (j : Fin 8) : Lo.mem c' (.o q' j) = Lo.mem c (.o q j) :=
  atH_congr _ (by unfold offH row; rw [h]) _ _

/-! ## Values -/

/-- The scale vector. -/
def gv (c : Dev nD) : S2048.Idx → Elt F .f32 := m ((c : Thread nD τ).loc main_arg2)

/-- The finished chunk, of the chunk of `p` kept, the chunk received, the residual chunk and the scale. -/
def pay (a b r : S256x2048.Idx → Elt F .f32) (g : S2048.Idx → Elt F .f32) : S256x2048.Idx → Elt F .f32 :=
  shapeCast S256x2048 (k0_pay1 (shapeCast S1x256x2048 a (by decide)) (shapeCast S1x256x2048 b (by decide)) (shapeCast S1x256x2048 r (by decide)) g) (by decide)

/-- Chunk `j` of device `c`'s quarter `q` of `p`, as the run starts. -/
def pVal (c : Dev nD) (q : Fin 4) (j : Fin 8) : S256x2048.Idx → Elt F .f32 :=
  (Lo.mem c (.p q j)).view.read (Elt F) (m ((c : Thread nD τ).loc main_arg0))
/-- The same chunk of the residual. -/
def rVal (c : Dev nD) (q : Fin 4) (j : Fin 8) : S256x2048.Idx → Elt F .f32 :=
  (Lo.mem c (.r q j)).view.read (Elt F) (m ((c : Thread nD τ).loc main_arg1))
/-- The chunk device `c` finishes. -/
def fVal (c : Dev nD) (j : Fin 8) : S256x2048.Idx → Elt F .f32 :=
  pay (pVal m c 0 j) (pVal m (nb .y c) 2 j) (rVal m c 0 j) (gv m c)

/-- The device that finishes chunk `j` of device `c`'s quarter `q`. -/
def maker (c : Dev nD) (q : Fin 4) (j : Fin 8) : Dev nD := match q with
  | 0 => c
  | 1 => nb .x c
  | 2 => nb (if j.val < 3 then .y else .z) c
  | 3 => nb .x (nb .z c)

/-- A value's contents on device `c`. -/
def Va.val (c : Dev nD) : Va → (S256x2048.Idx → Elt F .f32)
  | .pv q j => pVal m c q j
  | .rv q j => rVal m c q j
  | .yv j => pVal m (nb .y c) 2 j
  | .fin q j => fVal m (maker c q j) j

/-- A transfer's value, named by its sender and by its receiver, is one value. -/
theorem val_snd (t : Sd) (c : Dev nD) : t.rval.val m (nb t.dir c) = t.sval.val m c := by
  cases t with
  | yp j => show pVal m (nb .y (nb .y c)) 2 j = _; rw [nb_nb]; rfl
  | xs j => show fVal m (nb .x (nb .x c)) j = _; rw [nb_nb]; rfl
  | ya i =>
    show fVal m (nb (if (yaJ i).val < 3 then .y else .z) (nb .y c)) (yaJ i) = _
    rw [if_pos (show (yaJ i).val < 3 from i.isLt), nb_nb]; rfl
  | za i =>
    show fVal m (nb (if (zaJ i).val < 3 then .y else .z) (nb .z c)) (zaJ i) = _
    rw [if_neg (show ¬ (zaJ i).val < 3 by show ¬ i.val + 3 < 3; omega), nb_nb]; rfl
  | zb i => show fVal m (nb .x (nb .z (nb .z c))) (zbJ i) = _; rw [nb_nb]; rfl
  | xc i =>
    show fVal m (nb .x (nb .z (nb .x c))) (xcJ i) = fVal m (nb (if (xcJ i).val < 3 then .y else .z) c) (xcJ i)
    rw [nb_comm, nb_nb, if_neg (show ¬ (xcJ i).val < 3 by show ¬ i.val + 3 < 3; omega)]

/-! ## Pieces of memory -/

/-- A part of the full share. -/
def Sh.q : Sh → PosShare TreeShare
  | .full => fullShare | .l => fullShare.left | .r => fullShare.right | .rl => fullShare.right.left | .rr => fullShare.right.right

/-- A piece of memory, held by device `c`. -/
def MR.ev (c : Dev nD) : MR → sProp 𝕄
  | .any l => ownsSat (c : Thread nD τ) (l.mem c) fullShare fun _ => True
  | .own l v s => owns (c : Thread nD τ) (l.mem c) s.q (v.val m c)
  | .nbr d l => ownsSat (nb d c : Thread nD τ) (l.mem (nb d c)) fullShare fun _ => True

instance MR.ev_storable (c : Dev nD) (x : MR) : BI.Storable (upEmb : UEmb _ 𝕄) (x.ev m c) := by
  cases x with
  | any l => dsimp only [MR.ev]; infer_instance
  | own l v s => dsimp only [MR.ev]; rw [owns_eq_ownsSat]; infer_instance
  | nbr d l => dsimp only [MR.ev]; infer_instance

/-- Pieces held side by side. -/
def sepAll {A : Type} (Φ : A → sProp 𝕄) : List A → sProp 𝕄
  | [] => iprop(emp)
  | a :: l => iprop(Φ a ∗ sepAll Φ l)

instance sepAll_storable {A : Type} (Φ : A → sProp 𝕄) [∀ a, BI.Storable (upEmb : UEmb _ 𝕄) (Φ a)] (l : List A) :
    BI.Storable (upEmb : UEmb _ 𝕄) (sepAll Φ l) := by
  induction l with
  | nil => show BI.Storable _ iprop(emp); infer_instance
  | cons a l ih => show BI.Storable _ iprop(Φ a ∗ sepAll Φ l); infer_instance

/-! ## Semaphores -/

/-- A semaphore of device `c`: a DMA one, or the barrier. -/
abbrev kloc : Option Kc → SemLoc sig
  | none => .reg barS | some k => .dma k.sem
abbrev kcell (c : Dev nD) (k : Option Kc) : GSem nD τ sig := ((c : Thread nD τ), kloc k)

/-- The use of a DMA semaphore. -/
def useOf (i : DmaSem sig) : Option Kc := Kc.all.find? fun k => k.sem = i

/-- The use of a semaphore is found from it. -/
theorem useOf_sem : ∀ k : Kc, useOf k.sem = some k := by decide +kernel

/-- A chunk's credit has a value. -/
theorem N_ex : ∃ n : ℕ, n = (at8 precB 0).view.dmaCredit := ⟨_, rfl⟩
/-- What a 256 × 2048 transfer credits: kept folded, as its size never matters. -/
def N : ℕ := N_ex.choose
/-- It is `N`. -/
theorem N_eq : (at8 precB 0).view.dmaCredit = N := N_ex.choose_spec.symm
/-- It is positive. -/
theorem N_pos : 0 < N := N_eq ▸ View.dmaCredit_pos _ (by decide)

/-- The credit a wait at a semaphore takes. -/
def amt : Option Kc → ℕ
  | none => 3 | some _ => N

/-- The rounds of the kernel's semaphores: the barrier's one round hands over what the three neighbours lend. -/
def sched : Rounds.Schedule (GSem nD τ sig) Dir 𝕄 where
  duties g r := match g with
    | (⟨c, .tc⟩, .reg _) => if r = 0 then Finset.univ else ∅
    | (⟨c, .tc⟩, .dma i) => match useOf i with
      | some k => if r < k.rounds then {.x} else ∅
      | none => ∅
    | _ => ∅
  unitless _ := False
  amount g _ _ := match g with
    | (_, .reg _) => 1
    | _ => N
  payload g r d := match g with
    | (⟨c, _⟩, .reg _) => sepAll (MR.ev m c) ((grant d).map (MR.nbr d))
    | (⟨c, _⟩, .dma i) => match useOf i with
      | some k => sepAll (MR.ev m c) (k.pay r)
      | none => iprop(emp)
  amount_pos g _ _ _ := by
    rcases g with ⟨t, _ | _⟩
    · exact Nat.one_pos
    · exact N_pos

instance sched_storable (g : GSem nD τ sig) (r : ℕ) (d : Dir) : BI.Storable (upEmb : UEmb _ 𝕄) ((sched (F := F) m).payload g r d) := by
  rcases g with ⟨⟨c, p⟩, _ | i⟩
  · show BI.Storable _ (sepAll _ _); infer_instance
  · show BI.Storable _ (match useOf i with | some k => sepAll (MR.ev m c) (k.pay r) | none => iprop(emp))
    cases useOf i <;> infer_instance

section Facts
variable (c : Dev nD)

/-- The schedule's tables: the barrier's duties are one for each direction, -/
theorem duties_bar : (sched (F := F) m).duties (kcell c none) 0 = Finset.univ := rfl
/-- a semaphore's one a round, -/
theorem duties_dma (k : Kc) (r : ℕ) : (sched (F := F) m).duties (kcell c (some k)) r = if r < k.rounds then {.x} else ∅ := by
  show (match useOf k.sem with | some k => if r < k.rounds then {Dir.x} else ∅ | none => ∅) = _
  rw [useOf_sem]
/-- none after the last round; -/
theorem duties_later (k : Option Kc) : ∀ r, (match k with | none => 1 | some k => k.rounds) ≤ r → (sched (F := F) m).duties (kcell c k) r = ∅ := by
  intro r hr
  cases k with
  | none => exact if_neg (fun h : r = 0 => by subst h; exact absurd hr (by decide))
  | some k => rw [duties_dma]; exact if_neg (Nat.not_lt.mpr hr)
/-- a signal counts one, -/
theorem amount_bar (r : ℕ) (d : Dir) : (sched (F := F) m).amount (kcell c none) r d = 1 := rfl
/-- a copy `N`; -/
theorem amount_dma (k : Kc) (r : ℕ) (d : Dir) : (sched (F := F) m).amount (kcell c (some k)) r d = N := rfl
/-- a signal hands over the memory the neighbour may write, -/
theorem payload_bar (r : ℕ) (d : Dir) : (sched (F := F) m).payload (kcell c none) r d = sepAll (MR.ev m c) ((grant d).map (MR.nbr d)) := rfl
/-- a copy what it has landed; -/
theorem payload_dma (k : Kc) (r : ℕ) (d : Dir) : (sched (F := F) m).payload (kcell c (some k)) r d = sepAll (MR.ev m c) (k.pay r) := by
  show (match useOf k.sem with | some k => sepAll (MR.ev m c) (k.pay r) | none => iprop(emp)) = _
  rw [useOf_sem]
/-- the barrier waits for three, -/
theorem expect_bar : (sched (F := F) m).expect (kcell c none) 0 = 3 := by
  unfold Schedule.expect Schedule.amountOf; rw [duties_bar]; rfl
/-- and a semaphore for one copy. -/
theorem expect_dma (k : Kc) (r : ℕ) (h : r < k.rounds) : (sched (F := F) m).expect (kcell c (some k)) r = N := by
  unfold Schedule.expect Schedule.amountOf; rw [duties_dma, if_pos h, Finset.sum_singleton, amount_dma]
end Facts

end Cert.Fused

end
-- ==== Proof.Steps.lean ====
/-
# What each operation does

One lemma per kind of operation: from what the operation takes, by name, it runs and leaves what its plan says.
The kernel's whole order is then run by induction on the list.
-/
module

public import proofs.«01_k».proof.Proof.Sched

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Names read -/

/-- What device `c` holds under a name. -/
def Res.ev (c : Dev nD) : Res → sProp 𝕄
  | .mr x => x.ev m c
  | .tokL l => dutyTok ER (kcell c (some l.cell)) l.round Dir.x
  | .tokS t => dutyTok ER (kcell c (some (.sS t))) 0 Dir.x
  | .tokR t => dutyTok ER (kcell (nb t.dir c) (some (.sR t))) 0 Dir.x
  | .tokB d => dutyTok ER (kcell (nb d c) none) 0 d
  | .pos k n => atPos ER (kcell c k) n ∅ 0
  | .rch k n => reached ER (kcell c (some k)) n
  | .crd k => cred (tallyAt (kcell c k) () (amt k))
  | .gam => owns (c : Thread nD τ) gVm fullShare (gv m c)

/-- The rank of a semaphore. -/
def lv (g : GSem nD τ sig) (_ : Unit) : ℕ := match g.2 with
  | .reg _ => 1
  | .dma i => match useOf i with
    | some (.sR t) => t.rank
    | _ => 0
def L (g : GSem nD τ sig) : Finset Unit := if g.1.2 = .tc then {()} else ∅
/-- No levels but on the devices' cores, -/
theorem L_of_ne (g : GSem nD τ sig) (h : g.1.2 ≠ .tc) : L g = ∅ := if_neg h
/-- and one on each of their cells. -/
theorem L_tc (c : Dev nD) (sm : SemLoc sig) : L ((c : Thread nD τ), sm) = {()} := if_pos rfl

/-- What every device knows: the semaphores' invariants, that each has reached its first round, and the ranks. -/
def facts (K : Dev nD × Option Kc → ℕ) : sProp 𝕄 :=
  iprop((bigSep Finset.univ fun ck : Dev nD × Option Kc => cellInv ER (sched m) (K ck) (kcell ck.1 ck.2))
    ∗ (bigSep Finset.univ fun ck : Dev nD × Option Kc => reached ER (kcell ck.1 ck.2) 0) ∗ levAts L lv)
instance facts_persistent (K : Dev nD × Option Kc → ℕ) : BI.Persistent (facts m K) := by unfold facts; infer_instance

variable (K : Dev nD × Option Kc → ℕ)

/-- What is known to all includes each cell's invariant, -/
theorem facts_inv (c : Dev nD) (k : Option Kc) : facts m K ⊢ cellInv ER (sched m) (K (c, k)) (kcell c k) := by
  unfold facts
  iintro ⟨H, -, -⟩
  iapply (show (bigSep Finset.univ fun ck : Dev nD × Option Kc => cellInv ER (sched m) (K ck) (kcell ck.1 ck.2))
    ⊢ cellInv ER (sched m) (K (c, k)) (kcell c k) from bigSep_elim (Finset.mem_univ (c, k)))
  iexact H
/-- that each cell has reached its first round, -/
theorem facts_reached (c : Dev nD) (k : Option Kc) : facts m K ⊢ reached ER (kcell c k) 0 := by
  unfold facts
  iintro ⟨-, H, -⟩
  iapply (show (bigSep Finset.univ fun ck : Dev nD × Option Kc => (reached ER (kcell ck.1 ck.2) 0 : sProp 𝕄))
    ⊢ reached ER (kcell c k) 0 from bigSep_elim (Finset.mem_univ (c, k)))
  iexact H
/-- and the levels. -/
theorem facts_lev : facts m K ⊢ levAts L lv := by
  unfold facts
  iintro ⟨-, -, H⟩
  iexact H

/-! ## Debts -/

/-- What an operation pays off. -/
def oweOf (c : Dev nD) : Mi → CellTallies nD τ sig Unit
  | .sig d => tallyAt (kcell (nb d c) none) () 1
  | .snd t => tallyAt (kcell (nb t.dir c) (some (.sR t))) () N
  | _ => 0
/-- What operations still to run pay off. -/
def owedOf (c : Dev nD) : List Mi → CellTallies nD τ sig Unit
  | [] => 0
  | μ :: l => owedOf c l + oweOf c μ

/-- Device `c` owes `O`, whatever it has waited for. -/
def owesE (c : Dev nD) (O : CellTallies nD τ sig Unit) : sProp 𝕄 := iprop(∃ W, owes (c : Thread nD τ) O W)

/-- An arrival's level is its rank, every other semaphore's zero. -/
theorem lv_dma (c : Dev nD) (k : Kc) (u : Unit) : lv (kcell c (some k)) u = match k with | .sR t => t.rank | _ => 0 := by
  show (match useOf k.sem with | some (.sR t) => t.rank | _ => 0) = _
  rw [useOf_sem]
  cases k <;> rfl

/-- What a step owes it owes to a cell of its rank, -/
theorem owe_pos {c : Dev nD} {μ : Mi} {g : GSem nD τ sig} {u : Unit} (h : 0 < oweOf c μ g u) :
    g.1.2 = .tc ∧ μ.owedRank = some (lv g u) := by
  cases μ with
  | sig d =>
    unfold oweOf at h; rw [tallyAt_apply] at h
    split at h
    · next hg => rw [hg.1]; exact ⟨rfl, rfl⟩
    · exact absurd h (Nat.lt_irrefl 0)
  | snd t =>
    unfold oweOf at h; rw [tallyAt_apply] at h
    split at h
    · next hg => rw [hg.1, lv_dma]; exact ⟨rfl, rfl⟩
    · exact absurd h (Nat.lt_irrefl 0)
  | _ => exact absurd h (Nat.lt_irrefl 0)

/-- and what a list of steps owes, one of them owes. -/
theorem owed_pos {c : Dev nD} {l : List Mi} {g : GSem nD τ sig} {u : Unit} (h : 0 < owedOf c l g u) :
    g.1.2 = .tc ∧ ∃ μ ∈ l, μ.owedRank = some (lv g u) := by
  induction l with
  | nil => exact absurd h (Nat.lt_irrefl 0)
  | cons μ l ih =>
    unfold owedOf at h
    rw [Pi.add_apply, Finsupp.add_apply] at h
    rcases Nat.eq_zero_or_pos (oweOf c μ g u) with h0 | h0
    · rw [h0, Nat.add_zero] at h
      obtain ⟨h1, μ', hm, h2⟩ := ih h
      exact ⟨h1, μ', List.mem_cons_of_mem _ hm, h2⟩
    · exact ⟨(owe_pos h0).1, μ, List.mem_cons_self, (owe_pos h0).2⟩

/-- A device may wait at a semaphore of rank `w` while it owes only what `l` pays off, all of it ranked higher. -/
theorem mayWait {c : Dev nD} {μ : Mi} {l : List Mi} {w : ℕ} (hμ : μ.waitRank = some w) (hok : waitOk μ l = true) {k : Option Kc}
    (hk : lv (kcell c k) () = w) : (levAts L lv : sProp 𝕄) ⊢ MayWait (c : Thread nD τ) (kloc k) () (owedOf c l) := by
  refine MayOwe.of_cut (L := L) (lev := lv) w (fun p hp => by rw [Finset.mem_singleton.mp hp, L_tc]; exact Finset.mem_singleton_self _)
    (fun g u hg => by unfold L; rw [if_pos (owed_pos hg).1]; exact Finset.mem_singleton_self _)
    (fun p hp => by rw [Finset.mem_singleton.mp hp]; exact le_of_eq hk)
    (fun g u hg => ?_)
  obtain ⟨-, μ', hm, hr⟩ := owed_pos hg
  unfold waitOk at hok
  rw [hμ] at hok
  have h := List.all_eq_true.mp hok μ' hm
  rw [hr] at h
  exact of_decide_eq_true h

/-! ## Copies -/

/-- A local copy's round is one that its semaphore has. -/
theorem round_lt : ∀ l : Lc, l.round < l.cell.rounds := by decide
/-- What a local copy hands over is what the schedule says. -/
theorem pay_cell : ∀ l : Lc, l.cell.pay l.round = l.pay := by decide
/-- A local copy's duty is in the schedule, -/
theorem x_mem_lcp (c : Dev nD) (l : Lc) : Dir.x ∈ (sched (F := F) m).duties (kcell c (some l.cell)) l.round := by
  rw [duties_dma, if_pos (round_lt l)]; exact Finset.mem_singleton_self _
/-- and so is the one duty of a used semaphore. -/
theorem x_mem_one (c : Dev nD) (k : Kc) (h : 0 < k.rounds) : Dir.x ∈ (sched (F := F) m).duties (kcell c (some k)) 0 := by
  rw [duties_dma, if_pos h]; exact Finset.mem_singleton_self _

/-- A place whose buffer reads as `X` is owned at `X`. -/
theorem owns_of (c : Dev nD) {sp : Space} (dst : Memref sig .tc sp S256x2048 .f32) (q : PosShare TreeShare) {X : S256x2048.Idx → Elt F .f32}
    {f : dst.view.ty.Contents (Elt F)} (h : dst.view.read (Elt F) f = X) :
    (dst.view.loc (c : Thread nD τ) ↦[dst.view.set]{q} f : sProp 𝕄) ⊢ owns (c : Thread nD τ) dst q X := by
  rw [owns_eq_ownsSat]
  exact ownsSat_of (c : Thread nD τ) dst q (Φ := (· = X)) h

/-- One resource as a list. -/
theorem sepAll_one {A : Type} (Φ : A → sProp 𝕄) (a : A) : Φ a ⊢ sepAll Φ [a] := by
  show Φ a ⊢ iprop(Φ a ∗ emp)
  iintro H; isplitl [H]; · iexact H
  iempintro

section Written
variable {c : Dev nD} {sp sp' : Space} (src : Memref sig .tc sp S256x2048 .f32) (dst : Memref sig .tc sp' S256x2048 .f32) {X : S256x2048.Idx → Elt F .f32}

/-- A place written over with what a place holding `X` reads holds `X`. -/
theorem written {fs : src.view.ty.Contents (Elt F)} (fd : dst.view.ty.Contents (Elt F)) (h : src.view.read (Elt F) fs = X) :
    (dst.view.loc (c : Thread nD τ) ↦[dst.view.set]{fullShare} (dst.view.write (Elt F) fd (src.view.read (Elt F) fs) Finset.univ) : sProp 𝕄)
      ⊢ owns (c : Thread nD τ) dst fullShare X := by
  rw [owns_eq_ownsSat]
  exact ownsSat_of (c : Thread nD τ) dst fullShare (Φ := (· = X)) (by rw [View.read_write_univ, h])
end Written

/-- Every place is of one size, so a transfer into it credits `N`. -/
theorem lo_amount (c : Dev nD) (l : Lo) (s : DmaSem sig) : (l.mem c).view.amount (.dma s) = N := by
  refine Eq.trans ?_ N_eq
  cases l <;> rfl

/-- A local copy. -/
theorem copy_rule (c : Dev nD) (l : Lc) {src : Memref sig .tc l.src.sp S256x2048 .f32} {dst : Memref sig .tc l.dst.sp S256x2048 .f32}
    (hs : src = l.src.mem c) (hd : dst = l.dst.mem c)
    {hsrc : src.view.WordExact} {hdst : dst.view.WordExact} {hsem : DmaTarget.Typed l.src.sp (.dma l.cell.sem) (DmaTarget.here dst : DmaTarget nD τ sig .tc l.dst.sp S256x2048 .f32)} :
    iprop(facts m K ∗ sepAll (Res.ev m c) (Mi.lcp l).pre)
      ⊢ wp frame (wpE (defs₀ (F := F)) 𝒱₀ c none) Set.univ
          (Prog.lift (.enqueueDma src (.here dst) (.dma l.cell.sem) hsrc hdst hsem)) (fun _ => sepAll (Res.ev m c) (Mi.lcp l).post) := by
  subst hs hd
  show iprop(facts m K ∗ owns (c : Thread nD τ) (l.src.mem c) l.sh.q (l.val.val m c)
      ∗ ownsSat (c : Thread nD τ) (l.dst.mem c) fullShare (fun _ => True)
      ∗ dutyTok ER (kcell c (some l.cell)) l.round Dir.x ∗ reached ER (kcell c (some l.cell)) l.round ∗ emp) ⊢ wp _ _ _ (.op _ .ret) _
  unfold owns ownsSat
  iintro ⟨#Hf, ⟨%fs, %hfs, Hs⟩, ⟨%fd, -, Hd⟩, Ht, Hr, -⟩
  iapply (Rounds.wp_copy_pointsTo 𝒱₀ ER (sched m) (c : Thread nD τ) none (κ := K (c, some l.cell)) (r := l.round) (d := Dir.x)
    (fs := fs) (fd := fd) (q := l.sh.q) (x_mem_lcp m c l) () N (lo_amount c l.dst _) (amount_dma m c l.cell l.round Dir.x) ?_) $$ [Hs Hd Ht Hr]
  · rw [payload_dma, pay_cell]
    show _ ⊢ iprop(owns (c : Thread nD τ) (l.dst.mem c) fullShare (l.val.val m c) ∗ owns (c : Thread nD τ) (l.src.mem c) l.sh.q (l.val.val m c) ∗ emp)
    iintro ⟨H1, H2⟩
    isplitl [H1]; · iapply (written (l.src.mem c) (l.dst.mem c) fd hfs); iexact H1
    isplitl [H2]; · iapply (owns_of c (l.src.mem c) l.sh.q hfs); iexact H2
    iempintro
  · isplitr; · iapply (facts_inv m K c (some l.cell)); iexact Hf
    isplitl [Hs]; · iexact Hs
    isplitl [Hd]; · iexact Hd
    isplitl [Ht]; · iexact Ht
    iexact Hr
  iintro Hc
  rw [wp_ret]; imodintro
  iapply (show (cred (tallyAt (kcell c (some l.cell)) () N) : sProp 𝕄) ⊢ sepAll (Res.ev m c) (Mi.lcp l).post from
    sepAll_one (Res.ev m c) (.crd (some l.cell)))
  iexact Hc

/-- A landed transfer is what the schedule says its receiver gets. -/
theorem payR_intro (t : Sd) (c : Dev nD) :
    (owns (c : Thread nD τ) (t.dst.mem c) fullShare (t.rval.val m c) : sProp 𝕄) ⊢ sepAll (MR.ev m c) t.payR := by
  unfold Sd.payR
  cases t.halves
  · show _ ⊢ iprop(owns (c : Thread nD τ) (t.dst.mem c) fullShare (t.rval.val m c) ∗ emp)
    iintro H; isplitl [H]; · iexact H
    iempintro
  · show _ ⊢ iprop(owns (c : Thread nD τ) (t.dst.mem c) fullShare.left (t.rval.val m c) ∗ owns (c : Thread nD τ) (t.dst.mem c) fullShare.right (t.rval.val m c) ∗ emp)
    iintro H
    ihave H' := (owns_halves (c : Thread nD τ) (t.dst.mem c) fullShare (t.rval.val m c)).1 $$ H
    icases H' with ⟨H1, H2⟩
    isplitl [H1]; · iexact H1
    isplitl [H2]; · iexact H2
    iempintro

/-- A transfer to a neighbour. -/
theorem send_rule (c : Dev nD) (t : Sd) (n : Dev nD) (hn : n = nb t.dir c)
    {src : Memref sig .tc t.src.sp S256x2048 .f32} {dst : Memref sig .tc t.dst.sp S256x2048 .f32}
    (hs : src = t.src.mem c) (hd : dst = t.dst.mem (nb t.dir c))
    {hsc : (dst : Memref sig (Dev.tc n : Thread nD τ).2.kind t.dst.sp S256x2048 .f32).view.ref.isScScratch = false}
    {hsrc : src.view.WordExact} {hdst : dst.view.WordExact}
    {hsem : DmaTarget.Typed t.src.sp (.dma t.semR) (.remote (Dev.tc n : Thread nD τ) dst (.dma t.semS) hsc)} (O : CellTallies nD τ sig Unit) :
    iprop(facts m K ∗ owesE c (O + oweOf c (.snd t)) ∗ sepAll (Res.ev m c) (Mi.snd t).pre)
      ⊢ wp frame (wpE (defs₀ (F := F)) 𝒱₀ c none) Set.univ
          (Prog.lift (.enqueueDma src (.remote (Dev.tc n : Thread nD τ) dst (.dma t.semS) hsc) (.dma t.semR) hsrc hdst hsem))
          (fun _ => iprop(owesE c O ∗ sepAll (Res.ev m c) (Mi.snd t).post)) := by
  subst hn hs hd
  show iprop(facts m K ∗ owesE c (O + tallyAt (kcell (nb t.dir c) (some (.sR t))) () N)
      ∗ owns (c : Thread nD τ) (t.src.mem c) t.sh.q (t.sval.val m c)
      ∗ ownsSat (nb t.dir c : Thread nD τ) (t.dst.mem (nb t.dir c)) fullShare (fun _ => True)
      ∗ dutyTok ER (kcell c (some (.sS t))) 0 Dir.x ∗ dutyTok ER (kcell (nb t.dir c) (some (.sR t))) 0 Dir.x ∗ emp) ⊢ wp _ _ _ (.op _ .ret) _
  unfold owns ownsSat owesE
  iintro ⟨#Hf, ⟨%W, HO⟩, ⟨%fs, %hfs, Hs⟩, ⟨%fd, -, Hd⟩, Ht, Ht', -⟩
  iapply (Rounds.wp_send_pointsTo 𝒱₀ ER (sched m) (c : Thread nD τ) none (κ₁ := K (c, some (.sS t))) (κ₂ := K (nb t.dir c, some (.sR t)))
    (r₁ := 0) (r₂ := 0) (d₁ := Dir.x) (d₂ := Dir.x) (fs := fs) (fd := fd) (q := t.sh.q)
    (x_mem_one m c (.sS t) Nat.one_pos) (x_mem_one m (nb t.dir c) (.sR t) Nat.one_pos) () () N (lo_amount _ t.dst _)
    (amount_dma m c (.sS t) 0 Dir.x) (amount_dma m (nb t.dir c) (.sR t) 0 Dir.x) O rfl (W := W) ?_ ?_) $$ [HO Hs Hd Ht Ht']
  · rw [payload_dma m c (.sS t)]
    exact (owns_of c (t.src.mem c) t.sh.q hfs).trans (sepAll_one (MR.ev m c) (.own t.src t.sval t.sh))
  · rw [payload_dma m (nb t.dir c) (.sR t)]
    refine (written (t.src.mem c) (t.dst.mem (nb t.dir c)) fd (hfs.trans (val_snd m t c).symm)).trans ?_
    exact payR_intro m t (nb t.dir c)
  · isplitr; · iapply (facts_inv m K c (some (.sS t))); iexact Hf
    isplitr; · iapply (facts_inv m K (nb t.dir c) (some (.sR t))); iexact Hf
    isplitl [Hs]; · iexact Hs
    isplitl [Hd]; · iexact Hd
    isplitl [HO]; · iexact HO
    isplitl [Ht]; · iexact Ht
    isplitr; · iapply (facts_reached m K c (some (.sS t))); iexact Hf
    isplitl [Ht']; · iexact Ht'
    iapply (facts_reached m K (nb t.dir c) (some (.sR t))); iexact Hf
  iintro ⟨Hc, HO⟩
  rw [wp_ret]; imodintro
  isplitl [HO]; · iexists W; iexact HO
  iapply (show (cred (tallyAt (kcell c (some (.sS t))) () N) : sProp 𝕄) ⊢ sepAll (Res.ev m c) (Mi.snd t).post from
    sepAll_one (Res.ev m c) (.crd (some (.sS t))))
  iexact Hc

/-- The wait at a DMA semaphore for round `n`. -/
theorem wait_rule (c : Dev nD) (k : Kc) (n : ℕ) (hn : n < k.rounds) {sp sp' : Space}
    {src : Memref sig .tc sp S256x2048 .f32} {dst : Memref sig .tc sp' S256x2048 .f32} (hN : dst.view.dmaCredit = N)
    {hsrc : src.view.WordExact} {hdst : dst.view.WordExact} (O : CellTallies nD τ sig Unit)
    (hO : (levAts L lv : sProp 𝕄) ⊢ MayWait (c : Thread nD τ) (kloc (some k)) () O) :
    iprop(facts m K ∗ owesE c O ∗ cred (tallyAt (kcell c (some k)) () N) ∗ atPos ER (kcell c (some k)) n ∅ 0)
      ⊢ wp frame (wpE (defs₀ (F := F)) 𝒱₀ c none) Set.univ (Prog.lift (.waitDma2 k.sem src dst hsrc hdst))
          (fun _ => iprop(owesE c O ∗ atPos ER (kcell c (some k)) (n + 1) ∅ 0 ∗ reached ER (kcell c (some k)) (n + 1) ∗ sepAll (MR.ev m c) (k.pay n))) := by
  show _ ⊢ wp _ _ _ (.op _ .ret) _
  unfold owesE
  iintro ⟨#Hf, ⟨%W, HO⟩, Hc, Hp⟩
  iapply (Rounds.wp_wait_rest_token 𝒱₀ ER (sched m) (c : Thread nD τ) none (κ := K (c, some k))
      (wpE_waitDma2_eq 𝒱₀ (c : Thread nD τ) none Set.univ) (Set.mem_univ _) () (O := O) (W := W) (R := n) (m := 0) (T := ∅)
      (by rw [Nat.zero_add, expect_dma m c k n hn, hN])) $$ [HO Hc Hp]
  · isplitr; · iapply (facts_inv m K c (some k)); iexact Hf
    isplitl [Hc]; · rw [hN]; iexact Hc
    isplitl [HO]; · iexact HO
    isplitr; · iapply hO; iapply (facts_lev m K); iexact Hf
    iexact Hp
  iintro ⟨HO, Hp, Hr, Hpay⟩
  rw [wp_ret]; imodintro
  isplitl [HO]; · iexists _; iexact HO
  isplitl [Hp]; · iexact Hp
  isplitl [Hr]; · iexact Hr
  iapply (Entails.of_eq (show bigSep ((sched (F := F) m).duties (kcell c (some k)) n \ ∅) (fun d => (sched m).payload (kcell c (some k)) n d)
    = sepAll (MR.ev m c) (k.pay n) from by rw [Finset.sdiff_empty, duties_dma, if_pos hn, bigSep_singleton, payload_dma]))
  iexact Hpay

/-- A signal to the neighbour in direction `d`. -/
theorem sig_rule (c : Dev nD) (d : Dir) (n : Dev nD) (hn : n = nb d c) (O : CellTallies nD τ sig Unit) :
    iprop(facts m K ∗ owesE c (O + oweOf c (.sig d)) ∗ sepAll (Res.ev m c) (Mi.sig d).pre)
      ⊢ wp frame (wpE (defs₀ (F := F)) 𝒱₀ c none) Set.univ (semSignalWord n barS 1#32)
          (fun _ => iprop(owesE c O ∗ sepAll (Res.ev m c) (Mi.sig d).post)) := by
  subst hn
  show iprop(facts m K ∗ owesE c (O + tallyAt (kcell (nb d c) none) () 1) ∗ dutyTok ER (kcell (nb d c) none) 0 d
    ∗ sepAll (Res.ev m c) ((grant d).map fun l => .mr (.any l))) ⊢ wp _ _ _ (.op _ .ret) _
  unfold owesE
  iintro ⟨#Hf, ⟨%W, HO⟩, Ht, Hg⟩
  iapply (Rounds.wp_signal 𝒱₀ ER (sched m) (c : Thread nD τ) none (dst := (nb d c : Thread nD τ)) (κ := K (nb d c, none)) (r := 0) (d := d)
      (by rw [show (sched (F := F) m).duties ((nb d c : Thread nD τ), .reg barS) 0 = Finset.univ from rfl]; exact Finset.mem_univ _)
      ((amount_bar m (nb d c) 0 d).trans (by decide)) () O rfl) $$ [HO Ht Hg]
  · isplitr; · iapply (facts_inv m K (nb d c) none); iexact Hf
    isplitl [HO]; · iexact HO
    isplitl [Ht]; · iexact Ht
    isplitl [Hg]
    · rw [payload_bar m (nb d c)]
      generalize grant d = l
      iapply (show sepAll (Res.ev m c) (l.map fun l => .mr (.any l)) ⊢ sepAll (MR.ev m (nb d c)) (l.map (MR.nbr d)) from ?_) $$ Hg
      induction l with
      | nil => exact .rfl
      | cons a l ih =>
        refine BI.BIClass.sep_mono ?_ ih
        show (ownsSat (c : Thread nD τ) (a.mem c) fullShare (fun _ => True) : sProp 𝕄) ⊢ ownsSat (nb d (nb d c) : Thread nD τ) (a.mem (nb d (nb d c))) fullShare (fun _ => True)
        rw [nb_nb]
    · iapply (facts_reached m K (nb d c) none); iexact Hf
  iintro HO
  rw [wp_ret]; imodintro
  isplitl [HO]; · iexists W; iexact HO
  iapply (show iprop(emp) ⊢ sepAll (Res.ev m c) (Mi.sig d).post from .rfl)
  iempintro

/-- A list of resources in two parts. -/
theorem sepAll_append {A : Type} (Φ : A → sProp 𝕄) (l l' : List A) : sepAll Φ (l ++ l') ⊣⊢ iprop(sepAll Φ l ∗ sepAll Φ l') := by
  induction l with
  | nil =>
    constructor
    · show sepAll Φ l' ⊢ iprop(emp ∗ sepAll Φ l')
      iintro H
      isplitr
      · iempintro
      · iexact H
    · show iprop(emp ∗ sepAll Φ l') ⊢ sepAll Φ l'
      iintro ⟨-, H⟩
      iexact H
  | cons a l ih =>
    constructor
    · show iprop(Φ a ∗ sepAll Φ (l ++ l')) ⊢ iprop((Φ a ∗ sepAll Φ l) ∗ sepAll Φ l')
      iintro ⟨H, H'⟩
      ihave H' := ih.1 $$ H'
      icases H' with ⟨H1, H2⟩
      isplitl [H H1]
      · isplitl [H] <;> iassumption
      iexact H2
    · show iprop((Φ a ∗ sepAll Φ l) ∗ sepAll Φ l') ⊢ iprop(Φ a ∗ sepAll Φ (l ++ l'))
      iintro ⟨⟨H, H1⟩, H2⟩
      isplitl [H]; · iexact H
      iapply ih.2
      isplitl [H1] <;> iassumption

/-- A list of resources, renamed. -/
theorem sepAll_map {A B : Type} (Φ : B → sProp 𝕄) (f : A → B) (l : List A) : sepAll Φ (l.map f) = sepAll (fun a => Φ (f a)) l := by
  induction l with
  | nil => rfl
  | cons a l ih => show iprop(Φ (f a) ∗ sepAll Φ (l.map f)) = iprop(Φ (f a) ∗ sepAll _ l); rw [ih]

/-- The wait on the barrier. -/
theorem bar_rule (c : Dev nD) (O : CellTallies nD τ sig Unit) (hO : (levAts L lv : sProp 𝕄) ⊢ MayWait (c : Thread nD τ) (kloc none) () O) :
    iprop(facts m K ∗ owesE c O ∗ sepAll (Res.ev m c) Mi.bar.pre)
      ⊢ wp frame (wpE (defs₀ (F := F)) 𝒱₀ c none) Set.univ (semWaitWord barS 3#32)
          (fun _ => iprop(owesE c O ∗ sepAll (Res.ev m c) Mi.bar.post)) := by
  show iprop(facts m K ∗ owesE c O ∗ cred (tallyAt (kcell c none) () 3) ∗ atPos ER (kcell c none) 0 ∅ 0 ∗ emp) ⊢ wp _ _ _ (.op _ .ret) _
  unfold owesE
  iintro ⟨#Hf, ⟨%W, HO⟩, Hc, Hp, -⟩
  iapply (Rounds.wp_wait_rest_token 𝒱₀ ER (sched m) (c : Thread nD τ) none (κ := K (c, none))
      (wpE_semWait_eq 𝒱₀ (c : Thread nD τ) none Set.univ) (Set.mem_univ _) () (O := O) (W := W) (R := 0) (m := 0) (T := ∅)
      (by rw [Nat.zero_add]; exact (by decide : _ = 3).trans (expect_bar m c).symm)) $$ [HO Hc Hp]
  · isplitr; · iapply (facts_inv m K c none); iexact Hf
    isplitl [Hc]; · iexact Hc
    isplitl [HO]; · iexact HO
    isplitr; · iapply hO; iapply (facts_lev m K); iexact Hf
    iexact Hp
  iintro ⟨HO, Hp, -, Hpay⟩
  rw [wp_ret]; imodintro
  isplitl [HO]; · iexists _; iexact HO
  have hp (d : Dir) : (sched (F := F) m).payload (kcell c none) 0 d = sepAll (Res.ev m c) ((grant d).map fun l => .mr (.nbr d l)) := by
    rw [payload_bar, sepAll_map, sepAll_map]; rfl
  have hpay : bigSep ((sched (F := F) m).duties (kcell c none) 0 \ ∅) (fun d => (sched m).payload (kcell c none) 0 d)
      = iprop((sched m).payload (kcell c none) 0 Dir.x ∗ (sched m).payload (kcell c none) 0 Dir.y ∗ (sched m).payload (kcell c none) 0 Dir.z) := by
    rw [Finset.sdiff_empty, duties_bar]
    exact bigSep_univ_eq_bigSepL [Dir.x, Dir.y, Dir.z] (by decide) (by decide) _
  iapply (show iprop(atPos ER (kcell c none) 1 ∅ 0
      ∗ bigSep ((sched (F := F) m).duties (kcell c none) 0 \ ∅) (fun d => (sched m).payload (kcell c none) 0 d)) ⊢ sepAll (Res.ev m c) Mi.bar.post from by
    rw [hpay, hp, hp, hp]
    exact sep_mono_right ((sep_mono_right (sepAll_append _ _ _).2).trans (sepAll_append _ _ _).2))
  isplitl [Hp]
  · iexact Hp
  · iexact Hpay

end Cert.Fused

end
-- ==== Proof.Run.lean ====
/-
# The kernel's order, run

The computation of a chunk, each operation by the lemma of its kind, and the whole list by induction along the plan.
-/
module

public import proofs.«01_k».proof.Proof.Steps

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Kc → ℕ)

/-! ## The computation of a chunk -/

section Chunk
variable {sh : Shape} (b : Memref sig .tc .vmem sh .f32) (r : Rect sh) (hr : ∀ a, r.stride a = 1) (hq : r.shape.Squeezes S256x2048)
  (hc : S256x2048.ShapeCasts r.shape)

/-- A slice squeezed covers what the slice covers. -/
theorem set_chunk : ((b.slice r hr).squeeze S256x2048 hq).view.set = (b.access r).set := View.set_reshape _ _

/-- A load of a chunk's rows. -/
theorem load_rule {α : Type} (c : Dev nD) {hl : b.view.LoadsAt r.toLoadRect} {k : (r.shape.Idx → Elt F .f32) → Prog (TpuEff nD τ sig (Elt F) Λ₀ .tc) α}
    (q : PosShare TreeShare) (X : S256x2048.Idx → Elt F .f32) (Q : α → sProp 𝕄) :
    (owns (c : Thread nD τ) ((b.slice r hr).squeeze S256x2048 hq) q X : sProp 𝕄)
      ⊢ iprop((owns (c : Thread nD τ) ((b.slice r hr).squeeze S256x2048 hq) q X
          -∗ wp frame (wpE (defs₀ (F := F)) 𝒱₀ c none) Set.univ (k (shapeCast r.shape X hc)) Q)
        -∗ wp frame (wpE (defs₀ (F := F)) 𝒱₀ c none) Set.univ (.op (.load b r.toLoadRect hl) k) Q) := by
  rw [owns_eq_ownsSat]
  unfold ownsSat
  iintro H Hk
  icases H with ⟨%f, %hf, H⟩
  have hX : shapeCast r.shape X hc = (b.access r).read (Elt F) f := by
    rw [← hf, Memref.read_squeeze_slice b r hr hq hc.symm]
    exact shapeCast_shapeCast _ _ _
  iapply (wp_load_rect 𝒱₀ (c : Thread nD τ) none Set.univ (m := b) (r := r) (hl := hl) (k := k) (q := q) (f := f)
    (S := ((b.slice r hr).squeeze S256x2048 hq).view.set) (by rw [set_chunk])) $$ [H]
  · iexact H
  iintro H
  rw [← hX]
  iapply Hk
  iexists f
  isplitr
  · ipureintro; exact hf
  · iexact H

/-- A store of a chunk's rows. -/
theorem store_rule {α : Type} (c : Dev nD) {w : r.shape.Idx → Elt F .f32} {hx : (b.access r).Stores Finset.univ}
    {hm : (Finset.univ : Finset r.shape.Idx) = Finset.univ ∨ ∀ a, r.stride a = 1} {k : PUnit → Prog (TpuEff nD τ sig (Elt F) Λ₀ .tc) α}
    (Y : S256x2048.Idx → Elt F .f32) (hY : shapeCast S256x2048 w hc.symm = Y) (Q : α → sProp 𝕄) :
    (ownsSat (c : Thread nD τ) ((b.slice r hr).squeeze S256x2048 hq) fullShare (fun _ => True) : sProp 𝕄)
      ⊢ iprop((owns (c : Thread nD τ) ((b.slice r hr).squeeze S256x2048 hq) fullShare Y
          -∗ wp frame (wpE (defs₀ (F := F)) 𝒱₀ c none) Set.univ (k ⟨⟩) Q)
        -∗ wp frame (wpE (defs₀ (F := F)) 𝒱₀ c none) Set.univ (.op (.store b r w Finset.univ hx hm) k) Q) := by
  rw [owns_eq_ownsSat]
  unfold ownsSat
  iintro H Hk
  icases H with ⟨%f, -, H⟩
  iapply (wp_store 𝒱₀ (c : Thread nD τ) none Set.univ (m := b) (r := r) (hx := hx) (hm := hm) (k := k) (f := f) (w := w)
    (S := ((b.slice r hr).squeeze S256x2048 hq).view.set) (by rw [set_chunk]; exact subset_rfl)) $$ [H]
  · iexact H
  iintro H
  iapply Hk
  iexists ((b.access r).write (Elt F) f w Finset.univ)
  isplitr
  · ipureintro
    rw [Memref.read_squeeze_slice b r hr hq hc.symm]
    exact (congrArg (fun v => shapeCast S256x2048 v hc.symm) (View.read_write_univ _ _)).trans hY
  · iexact H
end Chunk

/-- A chunk with and without its leading axis has the same number of elements. -/
theorem casts_rows : S256x2048.ShapeCasts S1x256x2048 := by decide

/-- A load of the scale vector. -/
theorem load_gam {α : Type} (c : Dev nD) {hl : gVm.view.LoadsAt (Rect.unit (s := S2048) ![0] S2048.size inb_S2048_S2048_0).toLoadRect}
    {k : (S2048.Idx → Elt F .f32) → Prog (TpuEff nD τ sig (Elt F) Λ₀ .tc) α} (g : S2048.Idx → Elt F .f32) (Q : α → sProp 𝕄) :
    (owns (c : Thread nD τ) gVm fullShare g : sProp 𝕄)
      ⊢ iprop((owns (c : Thread nD τ) gVm fullShare g -∗ wp frame (wpE (defs₀ (F := F)) 𝒱₀ c none) Set.univ (k g) Q)
        -∗ wp frame (wpE (defs₀ (F := F)) 𝒱₀ c none) Set.univ
          (.op (.load gVm (Rect.unit (s := S2048) ![0] S2048.size inb_S2048_S2048_0).toLoadRect hl) k) Q) := by
  rw [owns_eq_ownsSat]
  unfold ownsSat
  iintro H Hk
  icases H with ⟨%f, %hf, H⟩
  iapply (wp_load 𝒱₀ (c : Thread nD τ) none Set.univ (m := gVm) (r := (Rect.unit (s := S2048) ![0] S2048.size inb_S2048_S2048_0).toLoadRect)
    (hl := hl) (k := k) (q := fullShare) (f := f) (S := gVm.view.set) (by rw [Memref.view_whole, View.set_whole]; exact Finset.subset_univ _)) $$ [H]
  · iexact H
  iintro H
  have hX : gVm.view.readAt (Elt F) (Rect.unit (s := S2048) ![0] S2048.size inb_S2048_S2048_0).toLoadRect f = g := by
    refine (Memref.readAt_unit_zero (Elt F) cc0_stg0_0 (funext fun a => by fin_cases a; rfl) _ f).trans ?_
    exact hf
  rw [hX]
  iapply Hk
  iexists f
  isplitr
  · ipureintro; exact hf
  · iexact H

/-- The computation of chunk `j`. -/
theorem cmp_rule (c : Dev nD) (j : Fin 8) :
    sepAll (Res.ev m c) (Mi.cmp j).pre
      ⊢ wp frame (wpE (defs₀ (F := F)) 𝒱₀ c none) Set.univ (cmpP j) (fun _ => sepAll (Res.ev m c) (Mi.cmp j).post) := by
  show iprop(owns (c : Thread nD τ) (at2 psB (slot j)) fullShare (pVal m c 0 j) ∗ owns (c : Thread nD τ) (at8 precB j) fullShare (pVal m (nb .y c) 2 j)
    ∗ owns (c : Thread nD τ) (at2 rsB (slot j)) fullShare (rVal m c 0 j) ∗ owns (c : Thread nD τ) gVm fullShare (gv m c)
    ∗ ownsSat (c : Thread nD τ) (at8 aB j) fullShare (fun _ => True) ∗ emp) ⊢ wp _ _ _ (.op _ _) _
  iintro ⟨Hp, Hy, Hr, Hg, Ha, -⟩
  iapply (load_rule psB (R2 (slot j)) (fun _ => rfl) squeezes_S1x256x2048_S256x2048 casts_rows c fullShare (pVal m c 0 j)) $$ Hp
  iintro Hp
  iapply (load_rule precB (R8 j) (fun _ => rfl) squeezes_S1x256x2048_S256x2048 casts_rows c fullShare (pVal m (nb .y c) 2 j)) $$ Hy
  iintro Hy
  iapply (load_rule rsB (R2 (slot j)) (fun _ => rfl) squeezes_S1x256x2048_S256x2048 casts_rows c fullShare (rVal m c 0 j)) $$ Hr
  iintro Hr
  iapply (load_gam c (gv m c)) $$ Hg
  iintro Hg
  ihave Ha := (ownsSat_true (c : Thread nD τ) (at8 aB j) fullShare).1 $$ Ha
  icases Ha with ⟨%X, Ha⟩
  iapply (load_rule aB (R8 j) (fun _ => rfl) squeezes_S1x256x2048_S256x2048 casts_rows c fullShare X) $$ Ha
  iintro Ha
  iapply (store_rule aB (R8 j) (fun _ => rfl) squeezes_S1x256x2048_S256x2048 casts_rows c (fVal m c j) rfl) $$ [Ha]
  · iapply (ownsSat_true (c : Thread nD τ) (at8 aB j) fullShare).2
    iexists X; iexact Ha
  iintro Ha
  rw [wp_ret]; imodintro
  ihave Ha := (show owns (c : Thread nD τ) (at8 aB j) fullShare (fVal m c j) ⊢ iprop(owns (c : Thread nD τ) (at8 aB j) fullShare.left (fVal m c j)
      ∗ owns (c : Thread nD τ) (at8 aB j) fullShare.right.left (fVal m c j) ∗ owns (c : Thread nD τ) (at8 aB j) fullShare.right.right (fVal m c j)) from
    (ownsSat_thirds (c : Thread nD τ) (at8 aB j) fullShare (· = fVal m c j)).1) $$ Ha
  icases Ha with ⟨Ha, Ha', Ha''⟩
  iapply (show iprop(ownsSat (c : Thread nD τ) (at2 psB (slot j)) fullShare (fun _ => True) ∗ ownsSat (c : Thread nD τ) (at8 precB j) fullShare (fun _ => True)
      ∗ ownsSat (c : Thread nD τ) (at2 rsB (slot j)) fullShare (fun _ => True) ∗ owns (c : Thread nD τ) gVm fullShare (gv m c)
      ∗ owns (c : Thread nD τ) (at8 aB j) fullShare.left (fVal m c j) ∗ owns (c : Thread nD τ) (at8 aB j) fullShare.right.left (fVal m c j)
      ∗ owns (c : Thread nD τ) (at8 aB j) fullShare.right.right (fVal m c j) ∗ emp) ⊢ sepAll (Res.ev m c) (Mi.cmp j).post from .rfl)
  isplitl [Hp]; · iapply (ownsSat_intro (c : Thread nD τ) (at2 psB (slot j)) fullShare (Φ := fun _ => True) (X := pVal m c 0 j) trivial); iexact Hp
  isplitl [Hy]; · iapply (ownsSat_intro (c : Thread nD τ) (at8 precB j) fullShare (Φ := fun _ => True) (X := pVal m (nb .y c) 2 j) trivial); iexact Hy
  isplitl [Hr]; · iapply (ownsSat_intro (c : Thread nD τ) (at2 rsB (slot j)) fullShare (Φ := fun _ => True) (X := rVal m c 0 j) trivial); iexact Hr
  isplitl [Hg]; · iexact Hg
  isplitl [Ha]; · iexact Ha
  isplitl [Ha']; · iexact Ha'
  isplitl [Ha'']; · iexact Ha''
  iempintro

/-! ## One operation -/

/-- A wait leaves its place and round as they are to be, and what the round hands over. -/
theorem wait_post (c : Dev nD) (k : Kc) (n : ℕ) (pay : List MR) (hp : k.pay n = pay) (O : CellTallies nD τ sig Unit) :
    iprop(owesE c O ∗ atPos ER (kcell c (some k)) (n + 1) ∅ 0 ∗ reached ER (kcell c (some k)) (n + 1) ∗ sepAll (MR.ev m c) (k.pay n))
      ⊢ iprop(owesE c O ∗ sepAll (Res.ev m c) (.pos (some k) (n + 1) :: .rch k (n + 1) :: pay.map .mr)) := by
  subst hp
  show _ ⊢ iprop(owesE c O ∗ atPos ER (kcell c (some k)) (n + 1) ∅ 0 ∗ reached ER (kcell c (some k)) (n + 1) ∗ sepAll (Res.ev m c) ((k.pay n).map .mr))
  iintro ⟨HO, Hp, Hr, Hpay⟩
  isplitl [HO]; · iexact HO
  isplitl [Hp]; · iexact Hp
  isplitl [Hr]; · iexact Hr
  iapply (Entails.of_eq (sepAll_map (Res.ev m c) .mr (k.pay n)).symm)
  iexact Hpay

/-- A resource may be dropped. -/
theorem drop_second (c : Dev nD) (a b : Res) (l : List Res) (O : CellTallies nD τ sig Unit) :
    iprop(owesE c O ∗ sepAll (Res.ev m c) (a :: b :: l)) ⊢ iprop(owesE c O ∗ sepAll (Res.ev m c) (a :: l)) := by
  show iprop(owesE c O ∗ a.ev m c ∗ b.ev m c ∗ sepAll (Res.ev m c) l) ⊢ iprop(owesE c O ∗ a.ev m c ∗ sepAll (Res.ev m c) l)
  iintro ⟨HO, Ha, -, Hl⟩
  isplitl [HO]; · iexact HO
  isplitl [Ha]; · iexact Ha
  iexact Hl

/-- The resources of a wait, as the rule for waits takes them. -/
theorem wait_pre (c : Dev nD) (k : Kc) (n : ℕ) (O : CellTallies nD τ sig Unit) :
    iprop(facts m K ∗ owesE c O ∗ sepAll (Res.ev m c) [.crd (some k), .pos (some k) n])
      ⊢ iprop(facts m K ∗ owesE c O ∗ cred (tallyAt (kcell c (some k)) () N) ∗ atPos ER (kcell c (some k)) n ∅ 0) := by
  show iprop(facts m K ∗ owesE c O ∗ cred (tallyAt (kcell c (some k)) () N) ∗ atPos ER (kcell c (some k)) n ∅ 0 ∗ emp) ⊢ _
  iintro ⟨#Hf, HO, Hc, Hp, -⟩
  isplitr; · iexact Hf
  isplitl [HO]; · iexact HO
  isplitl [Hc]; · iexact Hc
  iexact Hp

/-- The wait for a local copy, -/
theorem wL_rule (c : Dev nD) (l : Lc) (O : CellTallies nD τ sig Unit) (hO : (levAts L lv : sProp 𝕄) ⊢ MayWait (c : Thread nD τ) (kloc (some l.cell)) () O) :
    iprop(facts m K ∗ owesE c O ∗ sepAll (Res.ev m c) (Mi.wL l).pre)
      ⊢ wp frame (wpE (defs₀ (F := F)) 𝒱₀ c none) Set.univ (wLP c l) (fun _ => iprop(owesE c O ∗ sepAll (Res.ev m c) (Mi.wL l).post)) := by
  refine (wait_pre m K c l.cell l.round O).trans ?_
  refine BI.BIBase.Entails.trans ?_ (wp_mono _ _ _ fun _ => wait_post m c l.cell l.round l.pay (pay_cell l) O)
  cases l with
  | pin j => exact wait_rule m K c (.lp (slot j)) _ (round_lt (.pin j)) (by exact Eq.trans rfl N_eq) O hO
  | rin j => exact wait_rule m K c (.lr (slot j)) _ (round_lt (.rin j)) (by exact Eq.trans rfl N_eq) O hO
  | acp j => exact wait_rule m K c (.la j) _ (round_lt (.acp j)) (by exact Eq.trans rfl N_eq) O hO
  | bcp j => exact wait_rule m K c (.lb j) _ (round_lt (.bcp j)) (by exact Eq.trans rfl N_eq) O hO

/-- for a transfer's departure, -/
theorem wS_rule (c : Dev nD) (t : Sd) (O : CellTallies nD τ sig Unit) (hO : (levAts L lv : sProp 𝕄) ⊢ MayWait (c : Thread nD τ) (kloc (some (.sS t))) () O) :
    iprop(facts m K ∗ owesE c O ∗ sepAll (Res.ev m c) (Mi.wS t).pre)
      ⊢ wp frame (wpE (defs₀ (F := F)) 𝒱₀ c none) Set.univ (wSP c t) (fun _ => iprop(owesE c O ∗ sepAll (Res.ev m c) (Mi.wS t).post)) := by
  refine (wait_pre m K c (.sS t) 0 O).trans ?_
  refine BI.BIBase.Entails.trans ?_ (wp_mono _ _ _ fun _ => (wait_post m c (.sS t) 0 t.payS rfl O).trans (drop_second m c _ _ _ O))
  cases t <;> exact wait_rule m K c (.sS _) 0 Nat.one_pos (by exact Eq.trans rfl N_eq) O hO

/-- for a transfer's arrival. -/
theorem wR_rule (c : Dev nD) (t : Sd) (O : CellTallies nD τ sig Unit) (hO : (levAts L lv : sProp 𝕄) ⊢ MayWait (c : Thread nD τ) (kloc (some (.sR t))) () O) :
    iprop(facts m K ∗ owesE c O ∗ sepAll (Res.ev m c) (Mi.wR t).pre)
      ⊢ wp frame (wpE (defs₀ (F := F)) 𝒱₀ c none) Set.univ (wRP c t) (fun _ => iprop(owesE c O ∗ sepAll (Res.ev m c) (Mi.wR t).post)) := by
  refine (wait_pre m K c (.sR t) 0 O).trans ?_
  refine BI.BIBase.Entails.trans ?_ (wp_mono _ _ _ fun _ => (wait_post m c (.sR t) 0 t.payR rfl O).trans (drop_second m c _ _ _ O))
  cases t <;> exact wait_rule m K c (.sR _) 0 Nat.one_pos (by exact Eq.trans rfl N_eq) O hO

/-- A local copy's places are those the kernel computes. -/
theorem lcp_rule (c : Dev nD) (l : Lc) :
    iprop(facts m K ∗ sepAll (Res.ev m c) (Mi.lcp l).pre)
      ⊢ wp frame (wpE (defs₀ (F := F)) 𝒱₀ c none) Set.univ (lcpP c l) (fun _ => sepAll (Res.ev m c) (Mi.lcp l).post) := by
  cases l with
  | pin j => exact copy_rule m K c (.pin j) (pOwn_eq c j) rfl
  | rin j => exact copy_rule m K c (.rin j) (rOwn_eq c j) rfl
  | acp j => exact copy_rule m K c (.acp j) rfl (oA_eq c j)
  | bcp j => exact copy_rule m K c (.bcp j) rfl (oB_eq c j)

/-- So are a transfer's. -/
theorem snd_rule (c : Dev nD) (t : Sd) (O : CellTallies nD τ sig Unit) :
    iprop(facts m K ∗ owesE c (O + oweOf c (.snd t)) ∗ sepAll (Res.ev m c) (Mi.snd t).pre)
      ⊢ wp frame (wpE (defs₀ (F := F)) 𝒱₀ c none) Set.univ (sndP c t) (fun _ => iprop(owesE c O ∗ sepAll (Res.ev m c) (Mi.snd t).post)) := by
  cases t with
  | yp j => exact send_rule m K c (.yp j) _ (sndDev_eq (.yp j) c) (pGive_eq c j) rfl O
  | xs j => exact send_rule m K c (.xs j) _ (sndDev_eq (.xs j) c) rfl rfl O
  | ya i => exact send_rule m K c (.ya i) _ (sndDev_eq (.ya i) c) rfl ((oA_eq c _).trans (mem_o_congr (quarter_ya c) _).symm) O
  | za i => exact send_rule m K c (.za i) _ (sndDev_eq (.za i) c) rfl ((oA_eq c _).trans (mem_o_congr (quarter_za c) _).symm) O
  | zb i => exact send_rule m K c (.zb i) _ (sndDev_eq (.zb i) c) rfl ((oB_eq c _).trans (mem_o_congr (quarter_zb c) _).symm) O
  | xc i => exact send_rule m K c (.xc i) _ (sndDev_eq (.xc i) c) (oC_eq c _) ((oC_eq c _).trans (mem_o_congr (quarter_xc c) _).symm) O

/-- What an operation with no debts of its own does, beside what is owed. -/
theorem beside (c : Dev nD) (O : CellTallies nD τ sig Unit) (P : PP F) (R R' : sProp 𝕄)
    (h : iprop(facts m K ∗ R) ⊢ wp frame (wpE (defs₀ (F := F)) 𝒱₀ c none) Set.univ P (fun _ => R')) :
    iprop(facts m K ∗ owesE c O ∗ R) ⊢ wp frame (wpE (defs₀ (F := F)) 𝒱₀ c none) Set.univ P (fun _ => iprop(owesE c O ∗ R')) := by
  refine BI.BIBase.Entails.trans ?_ (wp_frame_l frame _ _ (R := owesE c O))
  iintro ⟨#Hf, HO, HR⟩
  isplitl [HO]; · iexact HO
  iapply h
  isplitr; · iexact Hf
  iexact HR

/-- Any operation of the kernel, before those in `l`. -/
theorem step (c : Dev nD) (μ : Mi) (l : List Mi) (hok : waitOk μ l = true) :
    iprop(facts m K ∗ owesE c (owedOf c (μ :: l)) ∗ sepAll (Res.ev m c) μ.pre)
      ⊢ wp frame (wpE (defs₀ (F := F)) 𝒱₀ c none) Set.univ (μ.prog c) (fun _ => iprop(owesE c (owedOf c l) ∗ sepAll (Res.ev m c) μ.post)) := by
  have h0 : owedOf c l + 0 = owedOf c l := add_zero _
  cases μ with
  | lcp i =>
    show iprop(facts m K ∗ owesE c (owedOf c l + 0) ∗ _) ⊢ _
    rw [h0]; exact beside m K c _ _ _ _ (lcp_rule m K c i)
  | snd t => exact snd_rule m K c t _
  | sig d => exact sig_rule m K c d _ (sigDev_eq d c) _
  | bar =>
    show iprop(facts m K ∗ owesE c (owedOf c l + 0) ∗ _) ⊢ _
    rw [h0]; exact bar_rule m K c _ (mayWait (μ := .bar) rfl hok rfl)
  | wL i =>
    show iprop(facts m K ∗ owesE c (owedOf c l + 0) ∗ _) ⊢ _
    rw [h0]; exact wL_rule m K c i _ (mayWait (μ := .wL i) rfl hok (by rw [lv_dma]; cases i <;> rfl))
  | wS t =>
    show iprop(facts m K ∗ owesE c (owedOf c l + 0) ∗ _) ⊢ _
    rw [h0]; exact wS_rule m K c t _ (mayWait (μ := .wS t) rfl hok (by rw [lv_dma]))
  | wR t =>
    show iprop(facts m K ∗ owesE c (owedOf c l + 0) ∗ _) ⊢ _
    rw [h0]; exact wR_rule m K c t _ (mayWait (μ := .wR t) rfl hok (by rw [lv_dma]))
  | cmp j =>
    show iprop(facts m K ∗ owesE c (owedOf c l + 0) ∗ _) ⊢ _
    rw [h0]
    refine beside m K c _ _ _ _ (BI.BIBase.Entails.trans ?_ (cmp_rule m c j))
    iintro ⟨-, H⟩; iexact H

/-! ## The list -/

/-- A list of resources in another order. -/
theorem sepAll_perm {A : Type} (Φ : A → sProp 𝕄) {l l' : List A} (h : l.Perm l') : sepAll Φ l ⊢ sepAll Φ l' := by
  induction h with
  | nil => exact .rfl
  | cons a _ ih => exact sep_mono_right ih
  | swap a b l =>
    show iprop(Φ b ∗ Φ a ∗ sepAll Φ l) ⊢ iprop(Φ a ∗ Φ b ∗ sepAll Φ l)
    iintro ⟨Hb, Ha, H⟩
    isplitl [Ha]; · iexact Ha
    isplitl [Hb]; · iexact Hb
    iexact H
  | trans _ _ ih ih' => exact ih.trans ih'

/-- Taking names out of those held splits them in two. -/
theorem takeAll_perm : ∀ (R S S' : List Res), takeAll S R = some S' → S.Perm (R ++ S')
  | [], S, S', h => by obtain rfl : S = S' := Option.some.inj h; exact .rfl
  | r :: R, S, S', h => by
    unfold takeAll takeOne at h
    split at h
    · next hr => exact (List.perm_cons_erase hr).trans ((takeAll_perm R _ S' h).cons r)
    · exact absurd h (by simp)

/-- Operations run on the names held at their start leave the names the plan says. -/
theorem run_list (c : Dev nD) : ∀ (l : List Mi) (S S' : List Res), runOps l S = some S' →
    (iprop(facts m K ∗ owesE c (owedOf c l) ∗ sepAll (Res.ev m c) S)
      ⊢ wp frame (wpE (defs₀ (F := F)) 𝒱₀ c none) Set.univ (seqAll c l) (fun _ => iprop(owesE c 0 ∗ sepAll (Res.ev m c) S')))
  | [], S, S', h => by
    obtain rfl : S = S' := Option.some.inj h
    show _ ⊢ wp _ _ _ (.ret _) _
    rw [wp_ret]
    iintro ⟨-, H⟩
    imodintro
    iexact H
  | μ :: l, S, S', h => by
    unfold runOps at h
    cases hok : waitOk μ l with
    | false => rw [hok] at h; exact absurd h (by simp)
    | true =>
      rw [hok] at h
      obtain ⟨T, hT, hrun⟩ := Option.bind_eq_some_iff.mp h
      show _ ⊢ wp _ _ _ (Mi.prog c μ >>= fun _ => seqAll c l) _
      rw [wp_bind]
      refine BI.BIBase.Entails.trans ?_ (wp_mono _ _ _ fun _ => run_list c l _ S' hrun)
      refine BI.BIBase.Entails.trans ?_ (wp_mono _ _ _ fun _ => sep_mono_right (sep_mono_right (sepAll_append _ _ _).2))
      refine BI.BIBase.Entails.trans ?_ (wp_mono _ _ _ fun _ => show iprop((facts m K ∗ sepAll (Res.ev m c) T) ∗ owesE c (owedOf c l) ∗ sepAll (Res.ev m c) μ.post)
        ⊢ iprop(facts m K ∗ owesE c (owedOf c l) ∗ sepAll (Res.ev m c) μ.post ∗ sepAll (Res.ev m c) T) from by
          iintro ⟨⟨H1, H2⟩, H3, H4⟩
          isplitl [H1]; · iexact H1
          isplitl [H3]; · iexact H3
          isplitl [H4]; · iexact H4
          iexact H2)
      refine BI.BIBase.Entails.trans ?_ (wp_frame_l frame _ _ (R := iprop(facts m K ∗ sepAll (Res.ev m c) T)))
      iintro ⟨#Hf, HO, HS⟩
      ihave HS := ((sepAll_perm (Res.ev m c) (takeAll_perm _ _ _ hT)).trans (sepAll_append _ _ _).1) $$ HS
      icases HS with ⟨Hpre, HT⟩
      isplitl [HT]
      · isplitr; · iexact Hf
        iexact HT
      iapply (step m K c μ l hok)
      isplitr; · iexact Hf
      isplitl [HO]; · iexact HO
      iexact Hpre

/-- The kernel's order, from what a device holds at the start to what it holds at the end. -/
theorem run_ops (c : Dev nD) :
    iprop(facts m K ∗ owesE c (owedOf c ops) ∗ sepAll (Res.ev m c) (initGhost ++ initMem))
      ⊢ wp frame (wpE (defs₀ (F := F)) 𝒱₀ c none) Set.univ (seqAll c ops) (fun _ => iprop(owesE c 0 ∗ sepAll (Res.ev m c) (finGhost ++ finMem))) := by
  obtain ⟨T, hT⟩ := Option.isSome_iff_exists.mp planOk_eq
  obtain ⟨S, hS, hfin⟩ := Option.bind_eq_some_iff.mp hT
  refine (run_list m K c ops _ S hS).trans (wp_mono _ _ _ fun _ => sep_mono_right ?_)
  refine ((sepAll_perm (Res.ev m c) (takeAll_perm _ _ _ hfin)).trans (sepAll_append _ _ _).1).trans ?_
  iintro ⟨H, -⟩
  iexact H

end Cert.Fused

end
-- ==== Proof.Ghost.lean ====
/-
# Setting up the semaphores

The rounds of every semaphore are opened at the launch, each right to complete a round is dealt to the device that
completes it, and the launch's credits are those the kernel's waits take.
-/
module

public import proofs.«01_k».proof.Proof.Run

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Lists and families -/

/-- A family over the members of a list without repetition, one by one. -/
theorem sepAll_toFinset {A : Type} [DecidableEq A] (Φ : A → sProp 𝕄) : ∀ l : List A, l.Nodup → bigSep l.toFinset Φ = sepAll Φ l
  | [], _ => bigSep_empty
  | a :: l, h => by
    rw [List.toFinset_cons, bigSep_insert (fun ha => (List.nodup_cons.mp h).1 (List.mem_toFinset.mp ha)),
      sepAll_toFinset Φ l (List.nodup_cons.mp h).2]
    rfl

/-- A family over a whole type, along a list of its members. -/
theorem sepAll_univ {A : Type} [DecidableEq A] [Fintype A] (Φ : A → sProp 𝕄) (l : List A) (h : l.Nodup) (hl : ∀ a, a ∈ l) :
    bigSep Finset.univ Φ = sepAll Φ l := by
  rw [← sepAll_toFinset Φ l h]
  exact congrArg (fun s => bigSep s Φ) (Finset.ext fun a => by simp [hl a])

/-- A fact that gives every entry gives them all. -/
theorem sepAll_intro {A : Type} (R : sProp 𝕄) [BI.Persistent R] (Φ : A → sProp 𝕄) : ∀ l : List A, (∀ a ∈ l, R ⊢ Φ a) → (R ⊢ sepAll Φ l)
  | [], _ => by
    show _ ⊢ iprop(emp)
    iintro -; iempintro
  | a :: l, h => by
    show _ ⊢ iprop(Φ a ∗ sepAll Φ l)
    have h1 := h a List.mem_cons_self
    have h2 := sepAll_intro R Φ l fun b hb => h b (List.mem_cons_of_mem _ hb)
    iintro #H
    isplitr
    · iapply h1; iexact H
    · iapply h2; iexact H

/-- A list of resources follows from a list of stronger ones. -/
theorem sepAll_mono {A : Type} {Φ Ψ : A → sProp 𝕄} : ∀ l : List A, (∀ a ∈ l, Φ a ⊢ Ψ a) → (sepAll Φ l ⊢ sepAll Ψ l)
  | [], _ => .rfl
  | a :: l, h => BI.sep_mono (h a List.mem_cons_self) (sepAll_mono l fun b hb => h b (List.mem_cons_of_mem _ hb))

/-- No transfer between devices is listed twice, -/
theorem sd_nodup : Sd.all.Nodup := by decide +kernel
/-- no local copy, -/
theorem lc_nodup : Lc.all.Nodup := by decide +kernel
/-- and no semaphore. -/
theorem kc_nodup : Kc.all.Nodup := by decide +kernel
/-- Every transfer between devices is listed, -/
theorem sd_mem (t : Sd) : t ∈ Sd.all := Finset.mem_univ t
/-- every local copy, -/
theorem lc_mem (l : Lc) : l ∈ Lc.all := Finset.mem_univ l
/-- and every semaphore. -/
theorem kc_mem (k : Kc) : k ∈ Kc.all := Finset.mem_univ k

/-- Every semaphore of a device. -/
def cells : List (Option Kc) := none :: Kc.all.map some
/-- The semaphores and the barrier are listed once each. -/
theorem cells_nodup : cells.Nodup := by decide +kernel
/-- Every one of them is listed. -/
theorem cells_mem : ∀ k : Option Kc, k ∈ cells
  | none => List.mem_cons_self
  | some k => List.mem_cons_of_mem _ (List.mem_map_of_mem (kc_mem k))

/-! ## The semaphores are distinct -/

/-- Different names are different semaphores. -/
theorem kloc_inj : Function.Injective kloc := by
  rintro (_ | k) (_ | k') h
  · rfl
  · exact absurd h (by simp [kloc])
  · exact absurd h (by simp [kloc])
  · have h' : k.sem = k'.sem := by simpa [kloc] using h
    have h2 := congrArg useOf h'
    rw [useOf_sem, useOf_sem] at h2
    exact h2

/-- Cells that are one cell are on one device. -/
theorem dev_of_cell {c c' : Dev nD} {s s' : SemLoc sig} (h : (((c : Thread nD τ), s) : GSem nD τ sig) = ((c' : Thread nD τ), s')) : c = c' :=
  Fin.ext (congrArg (fun g : GSem nD τ sig => g.1.1.val) h)

/-- A cell names its device and its semaphore. -/
theorem kcell_inj : Function.Injective fun ck : Dev nD × Option Kc => kcell ck.1 ck.2 := by
  rintro ⟨c, k⟩ ⟨c', k'⟩ h
  obtain rfl : c = c' := dev_of_cell h
  obtain rfl : k = k' := kloc_inj (congrArg Prod.snd h)
  rfl

/-! ## The rights to complete rounds -/

/-- The rounds a device's own semaphores go through or its neighbours complete: a local copy, a departure, an arrival
    or a signal from a direction. -/
abbrev Tk : Type := Lc ⊕ Sd ⊕ Sd ⊕ Dir

/-- The semaphore, the round and the duty; -/
def tkKey : Tk → Option Kc × ℕ × Dir
  | .inl l => (some l.cell, l.round, .x)
  | .inr (.inl t) => (some (.sS t), 0, .x)
  | .inr (.inr (.inl t)) => (some (.sR t), 0, .x)
  | .inr (.inr (.inr d)) => (none, 0, d)
/-- the device whose semaphore it is, for the device that completes the round; -/
def tkDev (c : Dev nD) : Tk → Dev nD
  | .inr (.inr (.inl t)) => nb t.dir c
  | .inr (.inr (.inr d)) => nb d c
  | _ => c
/-- the name of the right. -/
def tkRes : Tk → Res
  | .inl l => .tokL l
  | .inr (.inl t) => .tokS t
  | .inr (.inr (.inl t)) => .tokR t
  | .inr (.inr (.inr d)) => .tokB d

/-- The device a token goes to is a neighbour, so going there twice is staying. -/
theorem tkDev_tkDev (c : Dev nD) : ∀ t : Tk, tkDev (tkDev c t) t = c
  | .inl _ => rfl
  | .inr (.inl _) => rfl
  | .inr (.inr (.inl t)) => nb_nb t.dir c
  | .inr (.inr (.inr d)) => nb_nb d c

/-- A right and the device that holds it, against the device whose semaphore it is for. -/
def deal : Dev nD × Tk ≃ Dev nD × Tk :=
  ⟨fun p => (tkDev p.1 p.2, p.2), fun p => (tkDev p.1 p.2, p.2), fun p => by simp only [tkDev_tkDev], fun p => by simp only [tkDev_tkDev]⟩

def tkTable : List (Option Kc × ℕ × Dir) :=
  Lc.all.map (fun l => tkKey (.inl l)) ++ (Sd.all.map (fun t => tkKey (.inr (.inl t))) ++ (Sd.all.map (fun t => tkKey (.inr (.inr (.inl t))))
    ++ [Dir.x, .y, .z].map fun d => tkKey (.inr (.inr (.inr d)))))
/-- Local copies that share a semaphore do so in different rounds. -/
theorem lc_key_inj : ∀ l ∈ Lc.all, ∀ l' ∈ Lc.all, (some l.cell, l.round) = (some l'.cell, l'.round) → l = l' := by decide +kernel
/-- No local copy uses a semaphore of a transfer between devices. -/
theorem lc_not_send : ∀ l : Lc, ∀ t : Sd, l.cell ≠ .sS t ∧ l.cell ≠ .sR t := by
  rintro (_ | _ | _ | _) t <;> exact ⟨fun h => (by cases h), fun h => (by cases h)⟩

/-- Different tokens are tokens of different duties. -/
theorem tkKey_inj : Function.Injective tkKey := by
  rintro (l | t | t | d) (l' | t' | t' | d') h <;> simp only [tkKey, Prod.mk.injEq, Option.some.injEq, reduceCtorEq, false_and, and_false] at h
  · exact congrArg _ (lc_key_inj l (lc_mem l) l' (lc_mem l') (by rw [h.1, h.2.1]))
  · exact absurd h.1 (lc_not_send l t').1
  · exact absurd h.1 (lc_not_send l t').2
  · exact absurd h.1.symm (lc_not_send l' t).1
  · obtain ⟨h, -⟩ := h; cases h; rfl
  · exact absurd h.1.symm (lc_not_send l' t).2
  · obtain ⟨h, -⟩ := h; cases h; rfl
  · obtain ⟨-, -, h⟩ := h; cases h; rfl

/-- What a token stands for. -/
theorem ev_tk (c : Dev nD) (t : Tk) :
    Res.ev m c (tkRes t) = dutyTok ER (kcell (tkDev c t) (tkKey t).1) (tkKey t).2.1 (tkKey t).2.2 := by
  rcases t with l | t | t | d <;> rfl

/-! ## Opening the rounds -/

def ringCells : Finset (GSem nD τ sig) := Finset.univ.map ⟨_, kcell_inj⟩
/-- The tokens of all devices are of different duties. -/
theorem tok_inj : Function.Injective fun p : Dev nD × Tk => (kcell p.1 (tkKey p.2).1, (tkKey p.2).2.1, (tkKey p.2).2.2) := by
  rintro ⟨c, t⟩ ⟨c', t'⟩ h
  have h1 : kcell c (tkKey t).1 = kcell c' (tkKey t').1 := congrArg Prod.fst h
  have h2 := kcell_inj (a₁ := (c, (tkKey t).1)) (a₂ := (c', (tkKey t').1)) h1
  have h3 : (tkKey t).2 = (tkKey t').2 :=
    Prod.ext (congrArg (fun g : GSem nD τ sig × ℕ × Dir => g.2.1) h) (congrArg (fun g : GSem nD τ sig × ℕ × Dir => g.2.2) h)
  obtain rfl : c = c' := congrArg Prod.fst h2
  exact congrArg (Prod.mk c) (tkKey_inj (Prod.ext (congrArg Prod.snd h2) h3))
def ringToks : Finset (GSem nD τ sig × ℕ × Dir) := Finset.univ.map ⟨_, tok_inj⟩

def u₀ : UU := (initOf (Pipeline.cells cfgs cellOf_inj) (Pipeline.launchToks cfgs cellOf_inj), initOf ringCells ringToks)

/-- The rights to complete the rounds of device `c`'s semaphores; -/
def toks (c : Dev nD) : sProp 𝕄 :=
  bigSep Finset.univ fun t : Tk => dutyTok ER (kcell c (tkKey t).1) (tkKey t).2.1 (tkKey t).2.2
/-- those device `c` holds. -/
def dealt (c : Dev nD) : sProp 𝕄 := bigSep Finset.univ fun t : Tk => Res.ev m c (tkRes t)

def G (c : Dev nD) : sProp 𝕄 :=
  iprop((bigSep Finset.univ fun k : Option Kc => roundState ER (sched m) (kcell c k) 0)
    ∗ (bigSep Finset.univ fun k : Option Kc => atPos ER (kcell c k) 0 ∅ 0)
    ∗ (bigSep Finset.univ fun k : Option Kc => reached ER (kcell c k) 0) ∗ toks c)

/-- The semaphores' invariants, and that each has reached its first round. -/
def records (K : Dev nD × Option Kc → ℕ) : sProp 𝕄 :=
  iprop((bigSep Finset.univ fun ck : Dev nD × Option Kc => cellInv ER (sched m) (K ck) (kcell ck.1 ck.2))
    ∗ (bigSep Finset.univ fun ck : Dev nD × Option Kc => reached ER (kcell ck.1 ck.2) 0))
instance records_persistent (K : Dev nD × Option Kc → ℕ) : BI.Persistent (records m K) := by unfold records; infer_instance

def linear (c : Dev nD) : sProp 𝕄 := iprop((bigSep Finset.univ fun k : Option Kc => atPos ER (kcell c k) 0 ∅ 0) ∗ dealt m c)
def G' (c : Dev nD) : sProp 𝕄 := iprop(∃ K, records m K ∗ linear m c)

/-- The initial rounds of all cells give every device its share of positions and tokens. -/
theorem fund_rounds : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option Kc => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores at zero -/

/-- The semaphores the kernel allocates for itself. -/
def osem (k : Kc) : SemLoc sig := .dma k.sem

/-- The one semaphore that outlives the kernel's buffers is the barrier. -/
theorem unscopedSems0_eq (c : Dev nD) : (unscopedSems0 c : sProp 𝕄) = semVal (kcell c none) 0 := by
  unfold unscopedSems0; rw [bigSep_eq_bigSepL_of_eq [SemLoc.reg barS] (by decide) (by decide)]; rfl

/-- A device's counters at launch are those of its cells, all zero. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun k : Option Kc => semVal (kcell c k) 0 : sProp 𝕄) := by
  rw [unscopedSems0_eq, bigSep_univ_equiv (Equiv.optionEquivSumPUnit.{0} Kc).symm, bigSep_univ_sum, bigSep_univ_of_subsingleton PUnit.unit]
  rfl

/-- From its counters and its share of the rounds a device makes an invariant for each of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option Kc => iprop(∃ κ : ℕ, cellInv ER (sched m) κ (kcell c k)))
          ∗ (bigSep Finset.univ fun k : Option Kc => atPos ER (kcell c k) 0 ∅ 0)
          ∗ (bigSep Finset.univ fun k : Option Kc => reached ER (kcell c k) 0) ∗ toks c) := by
  unfold G
  iintro ⟨Hos, Hus, Hst, Hrest⟩
  ihave Hv := (Entails.of_eq (sems0_eq (F := F) c)) $$ [Hos Hus]
  · isplitl [Hos] <;> iassumption
  imod (show iprop((bigSep Finset.univ fun k : Option Kc => semVal (kcell c k) 0) ∗ bigSep Finset.univ fun k : Option Kc => roundState ER (sched m) (kcell c k) 0)
      ⊢ (|={Set.univ}=> bigSep Finset.univ fun k : Option Kc => iprop(∃ κ : ℕ, cellInv ER (sched m) κ (kcell c k)) : sProp 𝕄) from by
        rw [← bigSep_sep']
        exact (bigSep_mono fun k _ => (Rounds.body_intro ER (sched m) (kcell c k)).trans inv_alloc).trans (bigSep_fupd _ _)) $$ [Hv Hst] with Hinv
  · isplitl [Hv] <;> iassumption
  imodintro
  isplitl [Hinv]; · iexact Hinv
  iexact Hrest

/-- Each right goes to the device that completes the round. -/
theorem toks_deal : (bigSep Finset.univ fun c : Dev nD => (toks c : sProp 𝕄)) ⊢ bigSep Finset.univ fun c : Dev nD => dealt m c := by
  unfold toks dealt
  rw [← bigSep_univ_prod (fun p : Dev nD × Tk => (dutyTok ER (kcell p.1 (tkKey p.2).1) (tkKey p.2).2.1 (tkKey p.2).2.2 : sProp 𝕄)),
    bigSep_univ_equiv deal, bigSep_univ_prod]
  exact bigSep_mono fun c _ => bigSep_mono fun t _ => Entails.of_eq (ev_tk m c t).symm

/-- What all devices know may be handed to each of them. -/
theorem with_records (K : Dev nD × Option Kc → ℕ) {Φ : Dev nD → sProp 𝕄} :
    iprop(records m K ∗ bigSep Finset.univ Φ) ⊢ bigSep Finset.univ fun c => iprop(records m K ∗ Φ c) :=
  (sep_mono_left (BI.bigSep_of_persistent Finset.univ (records m K))).trans (by rw [← bigSep_sep'])

/-- Tokens held where a duty is to be paid are tokens held by the device that pays it. -/
theorem regroup :
    (bigSep Finset.univ fun c : Dev nD => iprop((bigSep Finset.univ fun k : Option Kc => iprop(∃ κ : ℕ, cellInv ER (sched m) κ (kcell c k)))
          ∗ (bigSep Finset.univ fun k : Option Kc => atPos ER (kcell c k) 0 ∅ 0)
          ∗ (bigSep Finset.univ fun k : Option Kc => reached ER (kcell c k) 0) ∗ toks c) : sProp 𝕄)
      ⊢ bigSep Finset.univ (G' m) := by
  rw [bigSep_sep', bigSep_sep', bigSep_sep', ← bigSep_univ_prod (fun ck : Dev nD × Option Kc => iprop(∃ κ : ℕ, cellInv ER (sched m) κ (kcell ck.1 ck.2))),
    ← bigSep_univ_prod (fun ck : Dev nD × Option Kc => (reached ER (kcell ck.1 ck.2) 0 : sProp 𝕄))]
  iintro ⟨HI, Hat, #HR, Htok⟩
  ihave HK := (BI.bigSep_exists_pi Finset.univ (fun (ck : Dev nD × Option Kc) (κ : ℕ) => (cellInv ER (sched m) κ (kcell ck.1 ck.2) : sProp 𝕄))) $$ HI
  icases HK with ⟨%K, #HI⟩
  ihave Htk := (toks_deal m) $$ Htok
  iapply ((with_records m K (Φ := linear m)).trans (bigSep_mono fun c _ => show iprop(records m K ∗ linear m c) ⊢ G' m c from by
    unfold G'; iintro H; iexists K; iexact H))
  isplitr
  · unfold records; isplitl; · iexact HI
    iexact HR
  · iapply (show iprop((bigSep Finset.univ fun c : Dev nD => bigSep Finset.univ fun k : Option Kc => atPos ER (kcell c k) 0 ∅ 0)
        ∗ bigSep Finset.univ fun c : Dev nD => dealt m c) ⊢ (bigSep Finset.univ (linear m) : sProp 𝕄) from by
      unfold linear; rw [bigSep_sep'])
    isplitl [Hat]; · iexact Hat
    iexact Htk

/-- Every device's semaphores are opened at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credits -/

/-- The semaphore an operation pays a neighbour at. -/
def Mi.paid : Mi → Option (Option Kc)
  | .sig _ => some none
  | .snd t => some (some (.sR t))
  | _ => none
/-- What one payment at a semaphore counts. -/
def one : Option Kc → ℕ
  | none => 1 | some _ => N
/-- How often operations pay at a semaphore. -/
def times (k : Option Kc) : List Mi → ℕ
  | [] => 0
  | μ :: l => times k l + if μ.paid = some k then 1 else 0

/-- The semaphores a device waits at for its neighbours. -/
def owedCells : List (Option Kc) := none :: Sd.all.map fun t => some (.sR t)
/-- The cells that are owed to are listed once each. -/
theorem owedCells_nodup : owedCells.Nodup := by decide +kernel
set_option maxRecDepth 10000 in
/-- Each of them is paid once by the list of steps, the barrier three times. -/
theorem times_ops : ∀ k ∈ owedCells, times k ops = match k with | none => 3 | some _ => 1 := by decide +kernel

/-- So the payments make up the whole amount. -/
theorem times_one {k : Option Kc} (hk : k ∈ owedCells) : times k ops * one k = amt k := by
  rw [times_ops k hk]
  cases k with
  | none => rfl
  | some k => exact Nat.one_mul _

/-- Over the devices that may pay in one direction, exactly one pays a given cell. -/
theorem sum_tally (c : Dev nD) (k k' : Option Kc) (d : Dir) (n : ℕ) :
    (∑ e : Dev nD, tallyAt (kcell (nb d e) k') () n (kcell c k) ()) = if k' = k then n else 0 := by
  have h (e : Dev nD) : tallyAt (kcell (nb d e) k') () n (kcell c k) () = if e = nb d c then (if k' = k then n else 0) else 0 := by
    rw [tallyAt_apply]
    by_cases he : e = nb d c
    · subst he
      rw [if_pos rfl, nb_nb]
      by_cases hk : k' = k
      · subst hk; rw [if_pos ⟨rfl, rfl⟩, if_pos rfl]
      · rw [if_neg (fun h => hk (kloc_inj (congrArg Prod.snd h.1)).symm), if_neg hk]
    · rw [if_neg (fun h => he (by rw [dev_of_cell h.1, nb_nb])), if_neg he]
  rw [Finset.sum_congr rfl fun e _ => h e, Finset.sum_ite_eq', if_pos (Finset.mem_univ _)]

/-- What one step makes all devices owe to a cell. -/
theorem sum_owe (c : Dev nD) (k : Option Kc) (μ : Mi) :
    (∑ e : Dev nD, oweOf e μ (kcell c k) ()) = if μ.paid = some k then one k else 0 := by
  cases μ with
  | sig d =>
    refine (sum_tally c k none d 1).trans ?_
    by_cases hk : none = k
    · subst hk; rfl
    · rw [if_neg hk]; exact (if_neg (fun h => hk (Option.some.inj h))).symm
  | snd t =>
    refine (sum_tally c k (some (.sR t)) t.dir N).trans ?_
    by_cases hk : some (.sR t) = k
    · subst hk; exact (if_pos rfl).trans (if_pos rfl).symm
    · rw [if_neg hk]; exact (if_neg (fun h => hk (Option.some.inj h))).symm
  | _ => exact Finset.sum_const_zero

/-- What a list of steps makes all devices owe to a cell. -/
theorem sum_owed (c : Dev nD) (k : Option Kc) : ∀ l : List Mi, (∑ e : Dev nD, owedOf e l (kcell c k) ()) = times k l * one k
  | [] => by
    rw [times, Nat.zero_mul]; exact Finset.sum_const_zero
  | μ :: l => by
    have h (e : Dev nD) : owedOf e (μ :: l) (kcell c k) () = owedOf e l (kcell c k) () + oweOf e μ (kcell c k) () := by
      rw [owedOf, Pi.add_apply, Finsupp.add_apply]
    rw [Finset.sum_congr rfl fun e _ => h e, Finset.sum_add_distrib, sum_owed c k l, sum_owe, times, Nat.add_mul]
    congr 1
    split
    · exact (Nat.one_mul _).symm
    · exact (Nat.zero_mul _).symm

def O₀ (c : Dev nD) : CellTallies nD τ sig Unit := owedOf c ops

/-- The credit at launch of a cell is the amount it is owed. -/
theorem launch_at (c : Dev nD) {k : Option Kc} (hk : k ∈ owedCells) :
    tallyOn (kcell c k) (launchCredit (Pipeline.owing O₀) 0 (kcell c k)) = (tallyAt (kcell c k) () (amt k) : CellTallies nD τ sig Unit) := by
  unfold tallyAt; refine congrArg _ (Finsupp.ext fun u => ?_); cases u
  rw [Pipeline.launchCredit_owing, Finsupp.single_eq_same]
  exact (sum_owed c k ops).trans (times_one hk)

/-- The launch deals each device the credits its waits for its neighbours take. -/
theorem creds (c : Dev nD) : (Pipeline.launchCred O₀ c : sProp 𝕄) ⊢ sepAll (Res.ev m c) (owedCells.map .crd) := by
  have h : (bigSep Finset.univ fun sm : SemLoc sig => cred (tallyOn ((c : Thread nD τ), sm) (launchCredit (Pipeline.owing O₀) 0 ((c : Thread nD τ), sm))) : sProp 𝕄)
      ⊢ bigSep (owedCells.toFinset.map ⟨kloc, kloc_inj⟩) fun sm : SemLoc sig => cred (tallyOn ((c : Thread nD τ), sm) (launchCredit (Pipeline.owing O₀) 0 ((c : Thread nD τ), sm))) :=
    bigSep_subset (Finset.subset_univ _)
  rw [bigSep_map, sepAll_toFinset _ _ owedCells_nodup] at h
  rw [sepAll_map]
  unfold Pipeline.launchCred
  refine h.trans (sepAll_mono _ fun k hk => ?_)
  show cred (tallyOn (kcell c k) (launchCredit (Pipeline.owing O₀) 0 (kcell c k))) ⊢ cred (tallyAt (kcell c k) () (amt k))
  rw [launch_at c hk]

/-! ## What a device holds when the kernel starts -/

/-- What a device is dealt, by kind. -/
theorem dealt_eq (c : Dev nD) :
    dealt m c = iprop(sepAll (Res.ev m c) (Lc.all.map .tokL) ∗ sepAll (Res.ev m c) (Sd.all.map .tokS) ∗ sepAll (Res.ev m c) (Sd.all.map .tokR)
      ∗ sepAll (Res.ev m c) [.tokB .x, .tokB .y, .tokB .z]) := by
  unfold dealt
  rw [bigSep_univ_sum, bigSep_univ_sum, bigSep_univ_sum, sepAll_univ _ Lc.all lc_nodup lc_mem, sepAll_univ _ Sd.all sd_nodup sd_mem,
    sepAll_univ _ Sd.all sd_nodup sd_mem, sepAll_univ _ [Dir.x, .y, .z] (by decide) (by decide), sepAll_map, sepAll_map, sepAll_map]
  rfl

/-- All of a device's names but memory, in the order they come. -/
def dealtList : List Res :=
  owedCells.map .crd ++ ((cells.map fun k => .pos k 0) ++ (Kc.all.map (fun k => .rch k 0)
    ++ (Lc.all.map .tokL ++ (Sd.all.map .tokS ++ (Sd.all.map .tokR ++ [.tokB .x, .tokB .y, .tokB .z])))))

set_option maxRecDepth 100000 in
/-- What is dealt is what the plan starts from, in another order. -/
theorem dealtList_perm : (Res.gam :: dealtList).isPerm initGhost = true := by decide +kernel

/-- What the launch deals a device is the list of resources it starts from. -/
theorem ghost_intro (K : Dev nD × Option Kc → ℕ) (c : Dev nD) :
    iprop(facts m K ∗ linear m c ∗ Pipeline.launchCred O₀ c) ⊢ sepAll (Res.ev m c) dealtList := by
  unfold dealtList linear
  rw [dealt_eq, sepAll_univ (fun k : Option Kc => (atPos ER (kcell c k) 0 ∅ 0 : sProp 𝕄)) cells cells_nodup cells_mem]
  refine BI.BIBase.Entails.trans ?_ (sepAll_append _ _ _).2
  iintro ⟨#Hf, ⟨Hp, HL, HS, HR, HB⟩, Hc⟩
  isplitl [Hc]; · iapply (creds m c); iexact Hc
  iapply (sepAll_append _ _ _).2
  isplitl [Hp]
  · iapply (Entails.of_eq (sepAll_map (Res.ev m c) (fun k => Res.pos k 0) cells).symm); iexact Hp
  iapply (sepAll_append _ _ _).2
  isplitr
  · iapply ((sepAll_intro (facts m K) (fun k => Res.ev m c (.rch k 0)) Kc.all fun k _ => facts_reached m K c (some k)).trans
      (Entails.of_eq (sepAll_map (Res.ev m c) (fun k => Res.rch k 0) Kc.all).symm))
    iexact Hf
  iapply (sepAll_append _ _ _).2
  isplitl [HL]; · iexact HL
  iapply (sepAll_append _ _ _).2
  isplitl [HS]; · iexact HS
  iapply (sepAll_append _ _ _).2
  isplitl [HR]; · iexact HR
  iexact HB

end Cert.Fused

end
-- ==== Proof.Tiles.lean ====
/-
# A device's memory in tiles

The buffers a device holds whole when the kernel starts are the places the plan names, and those places at the end are
the buffers whole again.
-/
module

public import proofs.«01_k».proof.Proof.Ghost

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Whole buffers and squeezed slices -/

/-- A buffer held whole at some contents that meet `Φ`. -/
theorem whole_sat (c : Dev nD) (b : Ref sig .tc) (Φ : b.ty.Contents (Elt F) → Prop) :
    (ownsSat (c : Thread nD τ) (Memref.whole b) fullShare Φ : sProp 𝕄)
      = iprop(∃ f : Buf (Elt F) ((c : Thread nD τ).loc b), ⌜Φ f⌝ ∗ (((c : Thread nD τ).loc b) ↦{fullShare} f)) := by
  unfold ownsSat; simp only [Memref.view_whole, View.read_whole, View.set_whole]

/-- A buffer at known contents is held whole, -/
theorem whole_in (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  rw [owns_eq_ownsSat, whole_sat]
  iintro H; iexists f
  isplitr; · ipureintro; rfl
  iexact H

/-- at some contents too, -/
theorem whole_any (c : Dev nD) (b : Ref sig .tc) :
    (iprop(∃ f : Buf (Elt F) ((c : Thread nD τ).loc b), (((c : Thread nD τ).loc b) ↦{fullShare} f)) : sProp 𝕄)
      ⊢ ownsSat (c : Thread nD τ) (Memref.whole b) fullShare fun _ => True := by
  rw [whole_sat]
  iintro ⟨%f, H⟩; iexists f
  isplitr; · ipureintro; trivial
  iexact H

/-- and the other way. -/
theorem any_whole (c : Dev nD) (b : Ref sig .tc) :
    (ownsSat (c : Thread nD τ) (Memref.whole b) fullShare (fun _ => True) : sProp 𝕄)
      ⊢ iprop(∃ f : Buf (Elt F) ((c : Thread nD τ).loc b), (((c : Thread nD τ).loc b) ↦{fullShare} f)) := by
  rw [whole_sat]
  iintro ⟨%f, -, H⟩; iexists f
  iexact H

section Squeeze
variable {sp : Space} {sh : Shape} (b : Memref sig .tc sp sh .f32) (r : Rect sh) (hr : ∀ a, r.stride a = 1)
  (hq : r.shape.Squeezes S256x2048) (hc : S256x2048.ShapeCasts r.shape)

/-- A slice squeezed to 256 × 2048 is the slice, its contents read in that shape. -/
theorem sat_squeeze (c : Dev nD) (q : PosShare TreeShare) (Φ : (S256x2048.Idx → Elt F .f32) → Prop) :
    (ownsSat (c : Thread nD τ) ((b.slice r hr).squeeze S256x2048 hq) q Φ : sProp 𝕄)
      = ownsSat (c : Thread nD τ) (b.slice r hr) q fun X => Φ (shapeCast S256x2048 X hc.symm) := by
  have hs : ((b.slice r hr).squeeze S256x2048 hq).view.set = (b.slice r hr).view.set := View.set_reshape _ _
  have hrd (f : b.view.ty.Contents (Elt F)) : ((b.slice r hr).squeeze S256x2048 hq).view.read (Elt F) f
      = shapeCast S256x2048 ((b.slice r hr).view.read (Elt F) f) hc.symm := Memref.read_squeeze_slice b r hr hq hc.symm f
  unfold ownsSat
  refine congrArg (fun P : b.view.ty.Contents (Elt F) → sProp 𝕄 => iprop(∃ f, P f)) (funext fun f => ?_)
  rw [hs]
  exact congrArg (fun v => iprop(⌜Φ v⌝ ∗ ((b.slice r hr).view.loc (c : Thread nD τ) ↦[(b.slice r hr).view.set]{q} f))) (hrd f)
end Squeeze

/-! ## The tilings -/

/-- Rectangles that reach every index cover. -/
theorem rect_cover {s : Shape} {T : Type} [Fintype T] (r : T → Rect s) (h : ∀ i, ∃ t, i ∈ (r t).set) :
    (Finset.univ : Finset T).biUnion (fun t => (r t).set) = Finset.univ := by
  ext i
  obtain ⟨t, ht⟩ := h i
  exact ⟨fun _ => Finset.mem_univ _, fun _ => Finset.mem_biUnion.mpr ⟨t, Finset.mem_univ _, ht⟩⟩

/-- Different chunks are of rows apart. -/
theorem row_apart (c : Dev nD) {a b : Fin 4 × Fin 8} (h : a ≠ b) :
    row c a.1 a.2 + 256 ≤ row c b.1 b.2 ∨ row c b.1 b.2 + 256 ≤ row c a.1 a.2 := by
  obtain ⟨q, j⟩ := a
  obtain ⟨q', j'⟩ := b
  show 2048 * (quarter c q).val + 256 * j.val + 256 ≤ 2048 * (quarter c q').val + 256 * j'.val
    ∨ 2048 * (quarter c q').val + 256 * j'.val + 256 ≤ 2048 * (quarter c q).val + 256 * j.val
  by_cases hq : q = q'
  · subst hq
    have hj : j.val ≠ j'.val := fun e => h (by rw [Fin.ext e])
    omega
  · have hk : (quarter c q).val ≠ (quarter c q').val := fun e => hq (quarter_inj c q q' (Fin.ext e))
    omega

/-- Every row is in a chunk. -/
theorem row_find (c : Dev nD) {n : ℕ} (h : n < 8192) : ∃ a : Fin 4 × Fin 8, row c a.1 a.2 ≤ n ∧ n < row c a.1 a.2 + 256 := by
  obtain ⟨q, hq⟩ := quarter_surj c ⟨n / 2048, by omega⟩
  refine ⟨(q, ⟨n % 2048 / 256, by omega⟩), ?_⟩
  show 2048 * (quarter c q).val + 256 * (n % 2048 / 256) ≤ n ∧ n < 2048 * (quarter c q).val + 256 * (n % 2048 / 256) + 256
  rw [hq]
  show 2048 * (n / 2048) + 256 * (n % 2048 / 256) ≤ n ∧ n < 2048 * (n / 2048) + 256 * (n % 2048 / 256) + 256
  omega

abbrev RP (c : Dev nD) (a : Fin 4 × Fin 8) : Rect S1x8192x2048 := Rect.unit (s := S1x8192x2048) (offP c a.1 a.2) S1x256x2048.size (offP_inb c a.1 a.2)
abbrev RH (c : Dev nD) (a : Fin 4 × Fin 8) : Rect S8192x2048 := Rect.unit (s := S8192x2048) (offH c a.1 a.2) S256x2048.size (offH_inb c a.1 a.2)

/-- So the chunks of `p` are disjoint, -/
theorem RP_disj (c : Dev nD) (a b : Fin 4 × Fin 8) (h : a ≠ b) : Disjoint (RP c a).set (RP c b).set :=
  Rect.unit_disjoint (1 : Fin 3) (row_apart c h)
/-- and those of an array of rows. -/
theorem RH_disj (c : Dev nD) (a b : Fin 4 × Fin 8) (h : a ≠ b) : Disjoint (RH c a).set (RH c b).set :=
  Rect.unit_disjoint (0 : Fin 2) (row_apart c h)
/-- They cover `p`, -/
theorem RP_cover (c : Dev nD) : (Finset.univ : Finset (Fin 4 × Fin 8)).biUnion (fun a => (RP c a).set) = Finset.univ := by
  refine rect_cover _ fun i => ?_
  obtain ⟨a, h1, h2⟩ := row_find c (i (1 : Fin 3)).isLt
  refine ⟨a, Rect.mem_set_unit.mpr fun x => ?_⟩
  fin_cases x
  · exact ⟨Nat.zero_le _, (i (0 : Fin 3)).isLt⟩
  · exact ⟨h1, h2⟩
  · exact ⟨Nat.zero_le _, lt_of_lt_of_eq (i (2 : Fin 3)).isLt (Nat.zero_add _).symm⟩
/-- and the array of rows. -/
theorem RH_cover (c : Dev nD) : (Finset.univ : Finset (Fin 4 × Fin 8)).biUnion (fun a => (RH c a).set) = Finset.univ := by
  refine rect_cover _ fun i => ?_
  obtain ⟨a, h1, h2⟩ := row_find c (i (0 : Fin 2)).isLt
  refine ⟨a, Rect.mem_set_unit.mpr fun x => ?_⟩
  fin_cases x
  · exact ⟨h1, h2⟩
  · exact ⟨Nat.zero_le _, lt_of_lt_of_eq (i (1 : Fin 2)).isLt (Nat.zero_add _).symm⟩
/-- The slots of an eight-slot buffer are disjoint, -/
theorem R8_disj (a b : Fin 8) (h : a ≠ b) : Disjoint (R8 a).set (R8 b).set :=
  Rect.unit_disjoint (0 : Fin 3) (show a.val + 1 ≤ b.val ∨ b.val + 1 ≤ a.val from by have := fun e => h (Fin.ext e); omega)
/-- and those of a two-slot buffer. -/
theorem R2_disj (a b : Fin 2) (h : a ≠ b) : Disjoint (R2 a).set (R2 b).set :=
  Rect.unit_disjoint (0 : Fin 3) (show a.val + 1 ≤ b.val ∨ b.val + 1 ≤ a.val from by have := fun e => h (Fin.ext e); omega)
/-- They cover the buffer of eight, -/
theorem R8_cover : (Finset.univ : Finset (Fin 8)).biUnion (fun a => (R8 a).set) = Finset.univ := by
  refine rect_cover _ fun i => ⟨i (0 : Fin 3), Rect.mem_set_unit.mpr fun x => ?_⟩
  fin_cases x
  · exact ⟨le_refl _, Nat.lt_succ_self _⟩
  · exact ⟨Nat.zero_le _, lt_of_lt_of_eq (i (1 : Fin 3)).isLt (Nat.zero_add _).symm⟩
  · exact ⟨Nat.zero_le _, lt_of_lt_of_eq (i (2 : Fin 3)).isLt (Nat.zero_add _).symm⟩
/-- and of two. -/
theorem R2_cover : (Finset.univ : Finset (Fin 2)).biUnion (fun a => (R2 a).set) = Finset.univ := by
  refine rect_cover _ fun i => ⟨i (0 : Fin 3), Rect.mem_set_unit.mpr fun x => ?_⟩
  fin_cases x
  · exact ⟨le_refl _, Nat.lt_succ_self _⟩
  · exact ⟨Nat.zero_le _, lt_of_lt_of_eq (i (1 : Fin 3)).isLt (Nat.zero_add _).symm⟩
  · exact ⟨Nat.zero_le _, lt_of_lt_of_eq (i (2 : Fin 3)).isLt (Nat.zero_add _).symm⟩

/-- No tile is listed twice, -/
theorem tiles_nodup : tiles.Nodup := by decide
/-- and all are. -/
theorem tiles_mem : ∀ a : Fin 4 × Fin 8, a ∈ tiles := by decide

/-! ## The scratch buffers -/

/-- A buffer at any contents, split into squeezed slices at any contents and back. -/
theorem any_split {sp : Space} {sh : Shape} {T : Type} [Fintype T] [DecidableEq T] (c : Dev nD) (b : Memref sig .tc sp sh .f32) (r : T → Rect sh) (hr : ∀ t a, (r t).stride a = 1)
    (hd : ∀ t t', t ≠ t' → Disjoint (r t).set (r t').set) (hcov : (Finset.univ : Finset T).biUnion (fun t => (r t).set) = Finset.univ)
    (hq : ∀ t, (r t).shape.Squeezes S256x2048) (hc : ∀ t, S256x2048.ShapeCasts (r t).shape) :
    (ownsSat (c : Thread nD τ) b fullShare (fun _ => True) : sProp 𝕄)
      ⊣⊢ bigSep Finset.univ fun t => ownsSat (c : Thread nD τ) ((b.slice (r t) (hr t)).squeeze S256x2048 (hq t)) fullShare fun _ => True := by
  rw [bigSep_congr (s := Finset.univ) fun t _ => sat_squeeze b (r t) (hr t) (hq t) (hc t) c fullShare (fun _ => True)]
  constructor
  · exact (ownsSat_mono (c : Thread nD τ) b fullShare fun _ _ _ => trivial).trans
      (ownsSat_rects (c : Thread nD τ) b fullShare r hr hd hcov fun _ _ => True)
  · exact (ownsSat_of_rects (c : Thread nD τ) b fullShare r hr hd hcov fun _ _ => True).trans
      (ownsSat_mono (c : Thread nD τ) b fullShare fun _ _ => trivial)

/-- An eight-slot buffer is its slots, -/
theorem any8 (c : Dev nD) (b : Memref sig .tc .vmem S8x256x2048 .f32) :
    (ownsSat (c : Thread nD τ) b fullShare (fun _ => True) : sProp 𝕄)
      ⊣⊢ sepAll (fun j => ownsSat (c : Thread nD τ) (at8 b j) fullShare fun _ => True) (List.finRange 8) := by
  rw [← sepAll_univ _ _ (List.nodup_finRange 8) (fun a => List.mem_finRange a)]
  exact any_split c b R8 (fun _ _ => rfl) R8_disj R8_cover (fun _ => squeezes_S1x256x2048_S256x2048) (fun _ => casts_rows)
/-- a staging buffer its two. -/
theorem any2 (c : Dev nD) (b : Memref sig .tc .vmem S2x256x2048 .f32) :
    (ownsSat (c : Thread nD τ) b fullShare (fun _ => True) : sProp 𝕄)
      ⊣⊢ sepAll (fun j => ownsSat (c : Thread nD τ) (at2 b j) fullShare fun _ => True) [0, 1] := by
  rw [← sepAll_univ _ _ (by decide) (by decide)]
  exact any_split c b R2 (fun _ _ => rfl) R2_disj R2_cover (fun _ => squeezes_S1x256x2048_S256x2048) (fun _ => casts_rows)

/-! ## The arrays -/

/-- The rows of `p` at the contents the run starts from, in chunks and whole. -/
theorem p_tiles (c : Dev nD) :
    (owns (c : Thread nD τ) (Memref.whole main_arg0) fullShare (m ((c : Thread nD τ).loc main_arg0)) : sProp 𝕄)
      ⊣⊢ sepAll (fun a : Fin 4 × Fin 8 => owns (c : Thread nD τ) (Lo.mem c (.p a.1 a.2)) fullShare (pVal m c a.1 a.2)) tiles := by
  rw [← sepAll_univ _ _ tiles_nodup tiles_mem]
  have h (a : Fin 4 × Fin 8) : (owns (c : Thread nD τ) (Lo.mem c (.p a.1 a.2)) fullShare (pVal m c a.1 a.2) : sProp 𝕄)
      = owns (c : Thread nD τ) ((Memref.whole main_arg0).slice (RP c a) (fun _ => rfl)) fullShare
          (fun j => m ((c : Thread nD τ).loc main_arg0) ((RP c a).emb j)) := by
    rw [owns_eq_ownsSat, owns_eq_ownsSat]
    refine (sat_squeeze (Memref.whole main_arg0) (RP c a) (fun _ => rfl) squeezes_S1x256x2048_S256x2048 casts_rows c fullShare _).trans ?_
    congr 1
    funext X
    have e0 : pVal m c a.1 a.2 = shapeCast S256x2048 (fun j => m ((c : Thread nD τ).loc main_arg0) ((RP c a).emb j)) casts_rows.symm :=
      Memref.read_squeeze_slice (Memref.whole main_arg0) (RP c a) (fun _ => rfl) squeezes_S1x256x2048_S256x2048 casts_rows.symm
        (m ((c : Thread nD τ).loc main_arg0))
    rw [e0]
    refine propext ⟨fun e => ?_, fun e => congrArg (fun Y => shapeCast S256x2048 Y casts_rows.symm) e⟩
    have e2 := congrArg (fun Y => shapeCast S1x256x2048 Y casts_rows) e
    simp only [shapeCast_shapeCast] at e2
    exact e2
  simp only [h]
  exact ⟨owns_rects (c : Thread nD τ) (Memref.whole main_arg0) fullShare (RP c) (fun _ _ => rfl) (RP_disj c) (RP_cover c) _,
    owns_of_rects (c : Thread nD τ) (Memref.whole main_arg0) fullShare (RP c) (fun _ _ => rfl) (RP_disj c) (RP_cover c) _⟩

/-- The residual's rows. -/
theorem r_tiles (c : Dev nD) :
    (owns (c : Thread nD τ) (Memref.whole main_arg1) fullShare (m ((c : Thread nD τ).loc main_arg1)) : sProp 𝕄)
      ⊣⊢ sepAll (fun a : Fin 4 × Fin 8 => owns (c : Thread nD τ) (Lo.mem c (.r a.1 a.2)) fullShare (rVal m c a.1 a.2)) tiles := by
  rw [← sepAll_univ _ _ tiles_nodup tiles_mem]
  exact ⟨owns_rects (c : Thread nD τ) (Memref.whole main_arg1) fullShare (RH c) (fun _ _ => rfl) (RH_disj c) (RH_cover c) _,
    owns_of_rects (c : Thread nD τ) (Memref.whole main_arg1) fullShare (RH c) (fun _ _ => rfl) (RH_disj c) (RH_cover c) _⟩

/-- The output's rows at any contents, -/
theorem o_split (c : Dev nD) (f : Buf (Elt F) ((c : Thread nD τ).loc main_v1)) :
    (owns (c : Thread nD τ) (Memref.whole main_v1) fullShare f : sProp 𝕄)
      ⊢ sepAll (fun a : Fin 4 × Fin 8 => ownsSat (c : Thread nD τ) (Lo.mem c (.o a.1 a.2)) fullShare fun _ => True) tiles := by
  rw [← sepAll_univ _ _ tiles_nodup tiles_mem]
  exact (owns_rects (c : Thread nD τ) (Memref.whole main_v1) fullShare (RH c) (fun _ _ => rfl) (RH_disj c) (RH_cover c) f).trans
    (bigSep_mono fun a _ => ownsSat_intro (c : Thread nD τ) _ fullShare (Φ := fun _ => True) trivial)

/-- The output holds, in each chunk of each quarter, the chunk its maker finished. -/
def OutIs (c : Dev nD) (X : S8192x2048.Idx → Elt F .f32) : Prop :=
  ∀ a : Fin 4 × Fin 8, (fun i => X ((RH c a).emb i)) = fVal m (maker c a.1 a.2) a.2

/-- and at the end at the finished chunks. -/
theorem o_join (c : Dev nD) :
    sepAll (fun a : Fin 4 × Fin 8 => owns (c : Thread nD τ) (Lo.mem c (.o a.1 a.2)) fullShare (fVal m (maker c a.1 a.2) a.2)) tiles
      ⊢ (ownsSat (c : Thread nD τ) (Memref.whole main_v1) fullShare (OutIs m c) : sProp 𝕄) := by
  rw [← sepAll_univ _ _ tiles_nodup tiles_mem]
  exact ownsSat_of_rects (c : Thread nD τ) (Memref.whole main_v1) fullShare (RH c) (fun _ _ => rfl) (RH_disj c) (RH_cover c)
    fun a X => X = fVal m (maker c a.1 a.2) a.2

/-! ## The memory at the start -/

/-- The whole of a device's memory at the start is the places the plan names. -/
theorem mem_in (c : Dev nD) :
    iprop((((c : Thread nD τ).loc main_arg0) ↦{fullShare} m ((c : Thread nD τ).loc main_arg0))
        ∗ (((c : Thread nD τ).loc main_arg1) ↦{fullShare} m ((c : Thread nD τ).loc main_arg1))
        ∗ (((c : Thread nD τ).loc main_v1) ↦{fullShare} m ((c : Thread nD τ).loc main_v1))
        ∗ Pipeline.scopedRest spec0 c)
      ⊢ (sepAll (Res.ev m c) initMem : sProp 𝕄) := by
  rw [scopedRest0_eq]
  unfold initMem scratch
  simp only [List.map_append, List.append_assoc]
  iintro ⟨Hp, Hr, Ho, H0, H1, H2, H3, H4⟩
  ihave H0 := ((whole_any c cc0_scratch0).trans (any8 c precB).1) $$ H0
  ihave H1 := ((whole_any c cc0_scratch1).trans (any8 c xrB).1) $$ H1
  ihave H2 := ((whole_any c cc0_scratch2).trans (any8 c aB).1) $$ H2
  ihave H3 := ((whole_any c cc0_scratch3).trans (any2 c psB).1) $$ H3
  ihave H4 := ((whole_any c cc0_scratch4).trans (any2 c rsB).1) $$ H4
  ihave Hp := ((whole_in c main_arg0 _).trans (p_tiles m c).1) $$ Hp
  ihave Hr := ((whole_in c main_arg1 _).trans (r_tiles m c).1) $$ Hr
  ihave Ho := ((whole_in c main_v1 _).trans (o_split c _)) $$ Ho
  iapply (sepAll_append _ _ _).2
  isplitl [H3 H4]
  · ihave H3 := (show sepAll (fun j => ownsSat (c : Thread nD τ) (at2 psB j) fullShare fun _ => True) [0, 1]
        ⊢ (iprop(ownsSat (c : Thread nD τ) (at2 psB 0) fullShare (fun _ => True) ∗ ownsSat (c : Thread nD τ) (at2 psB 1) fullShare (fun _ => True) ∗ emp) : sProp 𝕄) from .rfl) $$ H3
    icases H3 with ⟨Ha, Hb, -⟩
    iapply (show (iprop(ownsSat (c : Thread nD τ) (at2 psB 0) fullShare (fun _ => True) ∗ ownsSat (c : Thread nD τ) (at2 psB 1) fullShare (fun _ => True)
        ∗ sepAll (fun j => ownsSat (c : Thread nD τ) (at2 rsB j) fullShare fun _ => True) [0, 1]) : sProp 𝕄)
      ⊢ sepAll (Res.ev m c) (List.map (fun l => Res.mr (MR.any l)) [.ps 0, .ps 1, .rs 0, .rs 1]) from .rfl)
    isplitl [Ha]; · iexact Ha
    isplitl [Hb]; · iexact Hb
    iexact H4
  iapply (sepAll_append _ _ _).2
  isplitl [H2]
  · iapply (Entails.of_eq ((sepAll_map (Res.ev m c) (fun l => Res.mr (MR.any l)) _).trans (sepAll_map _ Lo.ab _)).symm); iexact H2
  iapply (sepAll_append _ _ _).2
  isplitl [H1]
  · iapply (Entails.of_eq ((sepAll_map (Res.ev m c) (fun l => Res.mr (MR.any l)) _).trans (sepAll_map _ Lo.xr _)).symm); iexact H1
  iapply (sepAll_append _ _ _).2
  isplitl [H0]
  · iapply (Entails.of_eq ((sepAll_map (Res.ev m c) (fun l => Res.mr (MR.any l)) _).trans (sepAll_map _ Lo.prec _)).symm); iexact H0
  iapply (sepAll_append _ _ _).2
  isplitl [Hp]
  · iapply (Entails.of_eq (sepAll_map (Res.ev m c) (fun a : Fin 4 × Fin 8 => Res.mr (.own (.p a.1 a.2) (.pv a.1 a.2) .full)) tiles).symm); iexact Hp
  iapply (sepAll_append _ _ _).2
  isplitl [Hr]
  · iapply (Entails.of_eq (sepAll_map (Res.ev m c) (fun a : Fin 4 × Fin 8 => Res.mr (.own (.r a.1 a.2) (.rv a.1 a.2) .full)) tiles).symm); iexact Hr
  iapply (Entails.of_eq (sepAll_map (Res.ev m c) (fun a : Fin 4 × Fin 8 => Res.mr (.any (.o a.1 a.2))) tiles).symm); iexact Ho

/-! ## The memory at the end -/

/-- A list of lists of resources, by its parts. -/
theorem sepAll_flatMap {A B : Type} (Φ : B → sProp 𝕄) (f : A → List B) : ∀ l : List A, sepAll Φ (l.flatMap f) ⊢ sepAll (fun a => sepAll Φ (f a)) l
  | [] => .rfl
  | a :: l => by
    rw [List.flatMap_cons]
    exact (sepAll_append Φ _ _).1.trans (sep_mono_right (sepAll_flatMap Φ f l))

/-- A finished chunk's three shares are the slot whole. -/
theorem ab_join (c : Dev nD) (j : Fin 8) :
    sepAll (Res.ev m c) [.mr (.own (.ab j) (.fin 0 j) .l), .mr (.own (.ab j) (.fin 0 j) .rl), .mr (.own (.ab j) (.fin 0 j) .rr)]
      ⊢ ownsSat (c : Thread nD τ) (at8 aB j) fullShare fun _ => True := by
  refine BI.BIBase.Entails.trans (show _ ⊢ iprop(ownsSat (c : Thread nD τ) (at8 aB j) fullShare.left (· = fVal m c j)
      ∗ ownsSat (c : Thread nD τ) (at8 aB j) fullShare.right.left (· = fVal m c j) ∗ ownsSat (c : Thread nD τ) (at8 aB j) fullShare.right.right (· = fVal m c j)) from ?_)
    ((ownsSat_thirds (c : Thread nD τ) (at8 aB j) fullShare (· = fVal m c j)).2.trans (ownsSat_mono (c : Thread nD τ) _ fullShare fun _ _ => trivial))
  show iprop(owns (c : Thread nD τ) (at8 aB j) fullShare.left (fVal m c j) ∗ owns (c : Thread nD τ) (at8 aB j) fullShare.right.left (fVal m c j)
    ∗ owns (c : Thread nD τ) (at8 aB j) fullShare.right.right (fVal m c j) ∗ emp) ⊢ _
  rw [owns_eq_ownsSat, owns_eq_ownsSat, owns_eq_ownsSat]
  iintro ⟨H1, H2, H3, -⟩
  isplitl [H1]; · iexact H1
  isplitl [H2]; · iexact H2
  iexact H3
/-- A received chunk's two. -/
theorem xr_join (c : Dev nD) (j : Fin 8) :
    sepAll (Res.ev m c) [.mr (.own (.xr j) (.fin 1 j) .l), .mr (.own (.xr j) (.fin 1 j) .r)]
      ⊢ ownsSat (c : Thread nD τ) (at8 xrB j) fullShare fun _ => True := by
  refine BI.BIBase.Entails.trans (show _ ⊢ iprop(ownsSat (c : Thread nD τ) (at8 xrB j) fullShare.left (· = fVal m (maker c 1 j) j)
      ∗ ownsSat (c : Thread nD τ) (at8 xrB j) fullShare.right (· = fVal m (maker c 1 j) j)) from ?_)
    ((ownsSat_halves (c : Thread nD τ) (at8 xrB j) fullShare (· = fVal m (maker c 1 j) j)).2.trans (ownsSat_mono (c : Thread nD τ) _ fullShare fun _ _ => trivial))
  show iprop(owns (c : Thread nD τ) (at8 xrB j) fullShare.left (fVal m (maker c 1 j) j) ∗ owns (c : Thread nD τ) (at8 xrB j) fullShare.right (fVal m (maker c 1 j) j)
    ∗ emp) ⊢ _
  rw [owns_eq_ownsSat, owns_eq_ownsSat]
  iintro ⟨H1, H2, -⟩
  isplitl [H1]; · iexact H1
  iexact H2

/-- What a device's arrays hold at the end. -/
def memEnd (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ ∃ f : Buf (Elt F) ((c : Thread nD τ).loc main_v1), ⌜OutIs m c f⌝ ∗ (((c : Thread nD τ).loc main_v1) ↦{fullShare} f))

/-- A buffer held whole is the buffer at its contents. -/
theorem owns_out (c : Dev nD) (b : Ref sig .tc) (f : Buf (Elt F) ((c : Thread nD τ).loc b)) :
    owns (c : Thread nD τ) (Memref.whole b) fullShare f ⊢ (((c : Thread nD τ).loc b) ↦{fullShare} f : sProp 𝕄) := by
  rw [owns_eq_ownsSat, whole_sat]
  iintro ⟨%g, %hg, H⟩
  subst hg
  iexact H

/-- The places the plan ends with are the buffers whole. -/
theorem mem_out (c : Dev nD) : (sepAll (Res.ev m c) finMem : sProp 𝕄) ⊢ iprop(memEnd m c ∗ Pipeline.scopedRest spec0 c) := by
  rw [scopedRest0_eq]
  unfold finMem memEnd
  simp only [List.append_assoc]
  refine (sepAll_append _ _ _).1.trans ((sep_mono_right ((sepAll_append _ _ _).1.trans (sep_mono_right ((sepAll_append _ _ _).1.trans
    (sep_mono_right ((sepAll_append _ _ _).1.trans (sep_mono_right ((sepAll_append _ _ _).1.trans (sep_mono_right (sepAll_append _ _ _).1))))))))).trans ?_)
  iintro ⟨Hs, H0, H2, H1, Hp, Hr, Ho⟩
  ihave Hs := (show sepAll (Res.ev m c) (List.map (fun l => Res.mr (MR.any l)) [.ps 0, .ps 1, .rs 0, .rs 1])
    ⊢ (iprop(ownsSat (c : Thread nD τ) (at2 psB 0) fullShare (fun _ => True) ∗ ownsSat (c : Thread nD τ) (at2 psB 1) fullShare (fun _ => True)
        ∗ sepAll (fun j => ownsSat (c : Thread nD τ) (at2 rsB j) fullShare fun _ => True) [0, 1]) : sProp 𝕄) from .rfl) $$ Hs
  icases Hs with ⟨Ha, Hb, H4⟩
  ihave H2 := ((sepAll_flatMap _ _ _).trans (sepAll_mono _ fun j _ => ab_join m c j)) $$ H2
  ihave H1 := ((sepAll_flatMap _ _ _).trans (sepAll_mono _ fun j _ => xr_join m c j)) $$ H1
  ihave H0 := (Entails.of_eq (sepAll_map (Res.ev m c) (fun j => Res.mr (MR.any (.prec j))) _)) $$ H0
  ihave Hp := (Entails.of_eq (sepAll_map (Res.ev m c) (fun a : Fin 4 × Fin 8 => Res.mr (.own (.p a.1 a.2) (.pv a.1 a.2) .full)) tiles)) $$ Hp
  ihave Hr := (Entails.of_eq (sepAll_map (Res.ev m c) (fun a : Fin 4 × Fin 8 => Res.mr (.own (.r a.1 a.2) (.rv a.1 a.2) .full)) tiles)) $$ Hr
  ihave Ho := (Entails.of_eq (sepAll_map (Res.ev m c) (fun a : Fin 4 × Fin 8 => Res.mr (.own (.o a.1 a.2) (.fin a.1 a.2) .full)) tiles)) $$ Ho
  isplitl [Hp Hr Ho]
  · isplitl [Hp]; · iapply ((p_tiles m c).2.trans (owns_out c main_arg0 _)); iexact Hp
    isplitl [Hr]; · iapply ((r_tiles m c).2.trans (owns_out c main_arg1 _)); iexact Hr
    iapply ((o_join m c).trans (Entails.of_eq (whole_sat c main_v1 (OutIs m c)))); iexact Ho
  isplitl [H0]; · iapply ((any8 c precB).2.trans (any_whole c cc0_scratch0)); iexact H0
  isplitl [H1]; · iapply ((any8 c xrB).2.trans (any_whole c cc0_scratch1)); iexact H1
  isplitl [H2]; · iapply ((any8 c aB).2.trans (any_whole c cc0_scratch2)); iexact H2
  isplitl [Ha Hb]
  · iapply ((any2 c psB).2.trans (any_whole c cc0_scratch3))
    iapply (show (iprop(ownsSat (c : Thread nD τ) (at2 psB 0) fullShare (fun _ => True) ∗ ownsSat (c : Thread nD τ) (at2 psB 1) fullShare (fun _ => True) ∗ emp) : sProp 𝕄)
      ⊢ sepAll (fun j => ownsSat (c : Thread nD τ) (at2 psB j) fullShare fun _ => True) [0, 1] from .rfl)
    isplitl [Ha]; · iexact Ha
    isplitl [Hb]; · iexact Hb
    iempintro
  iapply ((any2 c rsB).2.trans (any_whole c cc0_scratch4)); iexact H4

end Cert.Fused

end
-- ==== Proof.Launch.lean ====
/-
# The kernel launched on every device

The pipeline around the kernel, the kernel's body from what the launch deals a device to what it hands back, and the
whole run from any memory.
-/
module

public import proofs.«01_k».proof.Proof.Tiles
public import proofs.«01_k».proof.Proof.Gen.KernelIdeal.Points
public import Idealize.ShloMosaic.Lib.Pipeline.CollectiveSegs

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What a device starts from and ends with -/

/-- What the launch deals a device: its names, and its arrays as launched. -/
def start (c : Dev nD) : sProp 𝕄 :=
  iprop(∃ K, facts m K ∗ sepAll (Res.ev m c) dealtList
    ∗ (((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} m ((c : Thread nD τ).loc main_v1)))

/-- What a device holds when its kernel starts; -/
def Φ₀ (c : Dev nD) : sProp 𝕄 := iprop(∃ K, facts m K ∗ sepAll (Res.ev m c) dealtList ∗ sepAll (Res.ev m c) initMem)
/-- and when it has ended. -/
def Φ₁ (c : Dev nD) : sProp 𝕄 :=
  iprop((unscopedSems0 c ∗ memEnd m c)
    ∗ Pipeline.ownSems0 (Ix := Unit) (Name := ℕ) (U := UU) (Lvl := ℕ) (Val := Elt F) (τ := τ) osem c ∗ Pipeline.scopedRest spec0 c)

/-- The pipeline's proof data: one window, the scale vector, read and left in place. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gv m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Every window is held whole. -/
theorem share_eq (c : Dev nD) (w : Fin cfg0.W) : (dats m ρ 0 c).share w = fullShare := by unfold Dat.share; split <;> rfl

/-- The semaphores the kernel brings with it are in order. -/
theorem ownSemFacts : Pipeline.OwnSemFacts cfg0.spec osem := by decide +kernel

/-! ## The waits of the pipeline's own copies -/

/-- Whatever a step owes has a positive rank. -/
theorem ops_pos : ∀ μ ∈ ops, ∀ r, μ.owedRank = some r → 0 < r := by
  have h : (ops.all fun μ => match μ.owedRank with | none => true | some r => decide (0 < r)) = true := by decide +kernel
  intro μ hμ r hr
  have := List.all_eq_true.mp h μ hμ
  rw [hr] at this
  exact of_decide_eq_true this

/-- The pipeline's own waits are allowed beneath all that is owed. -/
theorem mayWait_stage (c : Dev nD) (q : DmaSem sig) (hq : useOf q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by unfold L; rw [if_pos (owed_pos hg).1]; exact Finset.mem_singleton_self _)
      (fun p hp => by rw [Finset.mem_singleton.mp hp]; dsimp only [lv]; rw [hq])
      (fun g u hg => ?_)
    obtain ⟨-, μ, hm, hr⟩ := owed_pos hg
    exact ops_pos μ hm _ hr
  · rw [MayWait_zero]; iintro -; iempintro

/-- So its waits are allowed throughout. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w; fin_cases s; decide) _ (by
      rcases t with ⟨_ | _, ht⟩
      · exact Or.inl rfl
      · exact Or.inr rfl)

/-! ## The body -/

/-- A buffer held whole, spelt out. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  rw [owns_eq_ownsSat, whole_sat]

/-- The scale vector's staging buffer holds the whole vector when the body starts. -/
theorem before_gam (c : Dev nD) (d) : (dats m ρ 0 c).before (0 : Fin 1) t0_0 d = gv m c := by
  unfold Dat.before
  rw [if_pos (fetch0_0 t0_0)]
  show ((cfg0.win (0 : Fin 1)).blk t0_0).view.read (Elt F) (m ((c : Thread nD τ).loc main_arg2)) = gv m c
  funext i
  show m ((c : Thread nD τ).loc main_arg2) (((cfg0.win (0 : Fin 1)).blk t0_0).view.emb i) = m ((c : Thread nD τ).loc main_arg2) i
  refine congrArg _ (funext fun a => Fin.ext ?_)
  fin_cases a
  show 0 * 2048 + 1 * (i 0).val = (i 0).val
  omega

/-- How many rounds a cell has had when the plan ends. -/
def ended : Option Kc → ℕ
  | none => 1 | some k => k.rounds

/-- The plan ended, every semaphore is closed at zero. -/
theorem close_cells (K : Dev nD × Option Kc → ℕ) (c : Dev nD) :
    iprop(facts m K ∗ sepAll (Res.ev m c) (Res.pos none 1 :: Kc.all.map fun k => .pos (some k) k.rounds))
      ⊢ |={Set.univ}=> iprop(Pipeline.ownSems0 (Ix := Unit) (Name := ℕ) (U := UU) (Lvl := ℕ) (Val := Elt F) (τ := τ) osem c ∗ unscopedSems0 c) := by
  rw [sems0_eq]
  have h : (sepAll (Res.ev m c) (Res.pos none 1 :: Kc.all.map fun k => .pos (some k) k.rounds) : sProp 𝕄)
      = bigSep Finset.univ fun k : Option Kc => atPos ER (kcell c k) (ended k) ∅ 0 := by
    rw [sepAll_univ (fun k : Option Kc => (atPos ER (kcell c k) (ended k) ∅ 0 : sProp 𝕄)) cells cells_nodup cells_mem]
    rw [show (Res.pos none 1 :: Kc.all.map fun k => Res.pos (some k) k.rounds) = cells.map (fun k => Res.pos k (ended k)) from by
      unfold cells; rw [List.map_cons, List.map_map]; rfl]
    exact sepAll_map (Res.ev m c) (fun k => Res.pos k (ended k)) cells
  rw [h]
  refine BI.BIBase.Entails.trans ?_ (bigSep_fupd _ _)
  refine (sep_mono_left (BI.bigSep_of_persistent (Finset.univ : Finset (Option Kc)) (facts m K))).trans ?_
  rw [← bigSep_sep']
  refine bigSep_mono fun k _ => ?_
  show iprop(facts m K ∗ atPos ER (kcell c k) (ended k) ∅ 0) ⊢ iprop(|={Set.univ}=> semVal (kcell c k) 0)
  iintro ⟨#Hf, Hp⟩
  iapply (Rounds.cell_close ER (sched m) (Set.mem_univ (K (c, k))) (fun h => h) (R := ended k) (duties_later m c k))
  isplitr; · iapply (facts_inv m K c k); iexact Hf
  iexact Hp

/-- The scale in its window, the dealt resources and the memory are what the plan starts from. -/
theorem begin_list (c : Dev nD) :
    iprop(owns (c : Thread nD τ) gVm fullShare (gv m c) ∗ sepAll (Res.ev m c) dealtList ∗ sepAll (Res.ev m c) initMem)
      ⊢ sepAll (Res.ev m c) (initGhost ++ initMem) := by
  refine BI.BIBase.Entails.trans ?_ (sepAll_append _ _ _).2
  iintro ⟨Hg, Hd, Hm⟩
  isplitl [Hg Hd]
  · iapply (show (iprop(owns (c : Thread nD τ) gVm fullShare (gv m c) ∗ sepAll (Res.ev m c) dealtList) : sProp 𝕄) ⊢ sepAll (Res.ev m c) initGhost from
      sepAll_perm (Res.ev m c) (List.isPerm_iff.mp dealtList_perm))
    isplitl [Hg] <;> iassumption
  iexact Hm

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ m c ∗ (dats m ρ 0 c).owesAt () t0_0.succ ∗ stg c cc0_stg0_0 (gv m c))

/-- What the plan ends with is what the body hands back. -/
theorem finish (K : Dev nD × Option Kc → ℕ) (c : Dev nD) :
    iprop(facts m K ∗ owesE c 0 ∗ sepAll (Res.ev m c) (finGhost ++ finMem)) ⊢ |={Set.univ}=> bodyPost m ρ c := by
  unfold bodyPost Φ₁ Dat.owesAt Pipeline.owesWithin
  rw [show (dats m ρ 0 c).owed t0_0.succ = 0 from rfl]
  unfold owesE
  iintro ⟨#Hf, ⟨%W, HO⟩, HS⟩
  ihave HS := (sepAll_append _ _ _).1 $$ HS
  icases HS with ⟨HG, HM⟩
  ihave HG := (show (sepAll (Res.ev m c) finGhost : sProp 𝕄) ⊢ iprop(owns (c : Thread nD τ) gVm fullShare (gv m c)
      ∗ sepAll (Res.ev m c) (Res.pos none 1 :: Kc.all.map fun k => .pos (some k) k.rounds)) from .rfl) $$ HG
  icases HG with ⟨Hg, HG⟩
  imod (close_cells m K c) $$ [HG] with HZ
  · isplitr; · iexact Hf
    iexact HG
  icases HZ with ⟨HZo, HZu⟩
  ihave HM := (mem_out m c) $$ HM
  icases HM with ⟨HM, Hsc⟩
  imodintro
  isplitl [HZo HZu HM Hsc]
  · isplitl [HZu HM]
    · isplitl [HZu] <;> iassumption
    isplitl [HZo] <;> iassumption
  isplitl [HO]
  · iexists W
    isplitr; · ipureintro; exact fun _ _ => Or.inl trivial
    iexact HO
  iapply (Entails.of_eq (owns_whole_eq c cc0_stg0_0 (gv m c))); iexact Hg

/-- The body, from what it is handed to what it hands back. -/
theorem sound_body (c : Dev nD) :
    bodyPre m ρ c ⊢ wp frame (wpE (defs₀ (F := F)) 𝒱₀ c none) Set.univ (kbody F) (fun _ => bodyPost m ρ c) := by
  rw [kbody_eq]
  simp only [Prog.lift, Prog.bind_op, Prog.bind_ret, wp_deviceId]
  unfold bodyPre Φ₀ Dat.owesAt Pipeline.owesWithin
  rw [show (dats m ρ 0 c).owed t0_0.castSucc = O₀ c from rfl]
  iintro ⟨⟨%K, #Hf, Hd, Hm⟩, ⟨%W, %hW, HO⟩, ⟨%d, Hg⟩⟩
  iapply (((wp_frame_l frame _ _ (R := facts m K)).trans (wp_mono _ _ _ fun _ => finish m ρ K c)).trans (wp_fupd frame _ _ _ _))
  isplitr; · iexact Hf
  iapply (run_ops m K c)
  isplitr; · iexact Hf
  isplitl [HO]; · unfold owesE; iexists W; iexact HO
  iapply (begin_list m c)
  isplitl [Hg]
  · iapply (Entails.of_eq ((congrArg (stg c cc0_stg0_0) (before_gam m ρ c d)).trans (owns_whole_eq c cc0_stg0_0 (gv m c)).symm)); iexact Hg
  isplitl [Hd] <;> iassumption

set_option maxRecDepth 40000 in
/-- The kernel's body, at its one grid point. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The run -/

/-- What the launch hands a device, gathered. -/
theorem start_intro (c : Dev nD) :
    iprop(Pipeline.unscopedRestP Pipeline.Prefetch.none cfg0.spec c (fun b => m ((c : Thread nD τ).loc b)) ∗ levAts L lv ∗ Pipeline.launchCred O₀ c ∗ prngReg c (ρ c) ∗ G' m c)
      ⊢ |={Set.univ}=> iprop(start m c ∗ emp) := by
  rw [Pipeline.unscopedRestP_none, unscopedRest0_eq]
  unfold start G' records
  iintro ⟨⟨Ha, Hb, Ho⟩, #Hlev, Hc, -, ⟨%K, ⟨#HI, #HR⟩, Hlin⟩⟩
  imodintro
  isplitl
  · iexists K
    isplitr
    · unfold facts
      isplitr; · iexact HI
      isplitr; · iexact HR
      iexact Hlev
    isplitl [Hc Hlin]
    · iapply (ghost_intro m K c)
      isplitr
      · unfold facts
        isplitr; · iexact HI
        isplitr; · iexact HR
        iexact Hlev
      isplitl [Hlin] <;> iassumption
    isplitl [Ha]; · iexact Ha
    isplitl [Hb] <;> iassumption
  iempintro

/-- With the kernel's buffers added, it is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  show _ ⊢ Φ₀ m c
  unfold start Φ₀
  iintro ⟨⟨%K, #Hf, Hd, Ha, Hb, Ho⟩, -, Hs⟩
  iexists K
  isplitr; · iexact Hf
  isplitl [Hd]; · iexact Hd
  iapply (mem_in m c)
  isplitl [Ha]; · iexact Ha
  isplitl [Hb]; · iexact Hb
  isplitl [Ho] <;> iassumption

/-- What the body ends with gives the buffers and the counters back. -/
theorem phi1_exit (c : Dev nD) :
    (dats m ρ 0 c).Φ (Fin.last cfg0.N)
      ⊢ iprop((unscopedSems0 c ∗ memEnd m c)
        ∗ Pipeline.ownSems0 (Ix := Unit) (Name := ℕ) (U := UU) (Lvl := ℕ) (Val := Elt F) (τ := τ) osem c ∗ Pipeline.scopedRest cfg0.spec c) := by
  show Φ₁ m c ⊢ _
  unfold Φ₁
  exact .rfl

/-- What a device's memory is at the end. -/
def QY (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ OutIs m c (s.mem ((c : Thread nD τ).loc main_v1)))
  ∧ ∀ sm : SemLoc sig, sm.isScoped .tc = false → s.sem ((c.tc : Thread nD τ), sm) = 0

/-- What is held of a buffer is what the memory has there. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s'
  rw [bigSep_singleton] at h
  refine h.trans ?_
  iintro ⟨%hr, H⟩
  isplitr; · ipureintro; exact hr () (Finset.mem_singleton_self _)
  iexact H

/-- What a device holds at the end says what its memory is. -/
theorem read_end (c : Dev nD) (s' : Phys nD τ sig (Elt F)) :
    iprop((unscopedSems0 c ∗ memEnd m c) ∗ emp ∗ SI s') ⊢ |={Set.univ}=> (iprop(⌜QY m c s'.mem⌝ ∗ SI s') : sProp 𝕄) := by
  unfold memEnd
  iintro ⟨⟨Hu, Ha, Hb, ⟨%f, %hf, Ho⟩⟩, -, HSI⟩
  ihave H := (read_one ((c : Thread nD τ).loc main_arg0) _ s') $$ [Ha HSI]
  · isplitl [Ha] <;> iassumption
  icases H with ⟨%ha, HSI⟩
  ihave H := (read_one ((c : Thread nD τ).loc main_arg1) _ s') $$ [Hb HSI]
  · isplitl [Hb] <;> iassumption
  icases H with ⟨%hb, HSI⟩
  ihave H := (read_one ((c : Thread nD τ).loc main_v1) f s') $$ [Ho HSI]
  · isplitl [Ho] <;> iassumption
  icases H with ⟨%ho, HSI⟩
  imod (Pipeline.unscopedSems0_read (X := unscopedSems0 c) (c := c) fupd_intro s') $$ [Hu HSI] with H
  · isplitl [Hu] <;> iassumption
  icases H with ⟨%hu, HSI⟩
  imodintro
  isplitr
  · ipureintro
    exact ⟨⟨ha, hb, by rw [ho]; exact hf⟩, hu⟩
  iexact HSI

def QC : PUnit × MemSt nD τ sig (Elt F) → Prop := fun r =>
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ OutIs m c (r.2.mem ((c : Thread nD τ).loc main_v1)))
  ∧ r.2.sem = fun _ => 0

set_option maxRecDepth 40000 in
/-- From any memory every execution ends, nothing faulting, with the arguments unchanged, every semaphore at zero, and
    each tile of every device's result what its maker computed. -/
theorem run_main : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := fun w => by fin_cases w; exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_rounds m) $$ HX with HG
      imodintro
      isplitl [HP] <;> iassumption)
    (hglob := glob m) (hA := fun _ _ => rfl) (hpf := fun _ k => k.elim0)
    (X := start m) (Y := fun c => iprop(unscopedSems0 c ∗ memEnd m c)) (Z := fun _ => iprop(emp))
    (hX := start_intro m ρ) (hin := phi0_intro m ρ) (hout := phi1_exit m ρ)
    (QY := QY m) (hY := read_end m)
    (hQ := fun _ h hs => ⟨fun c => ⟨(h c).2.2.1.1, (h c).2.2.1.2.1, ((h c).1 0).trans ((dats m ρ 0 c).arrAt_in 0 rfl _), (h c).2.2.1.2.2⟩,
      sem_eq_zero hs fun c => (h c).2.2.2⟩)

end Cert.Fused

end
-- ==== Proof.Frames.lean ====
/-
# The frames

Every execution of the kernel, as printed and idealized, and of the reference ends, nothing faulting, with its arguments
unchanged and every semaphore at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Fused

open Idealize.ShloMosaic Idealize.SL.Sem

/-- The frame, at any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩) (run_main m ρ)

/-- The idealized kernel's frame. -/
theorem frame_ideal : Cert.quiescent_KernelIdeal (hKernelIdeal := Cert.KernelIdeal.Gen.facts) := fun m ρ _ =>
  frame_any (F := Ideal) m ρ

/-- The reference's frame. -/
theorem frame_ref : Cert.quiescent_ReferenceIdeal (hReferenceIdeal := Cert.ReferenceIdeal.Gen.facts) := fun m ρ _ =>
  (θ_run Cert.ReferenceIdeal.defs _ _).mono (fun r h => ⟨fun c => (h c).2, funext fun g => by
    rcases g with ⟨t, sm⟩
    cases sm with
    | reg s => exact s.elim0
    | dma s => exact s.elim0⟩) (Cert.ReferenceIdeal.Value.run (F := Ideal) m ρ)

/-- The kernel's body as printed and as idealized are one program, -/
theorem body_same {F : FTy → Type} [FloatOps F] : @Cert.Kernel.cc0_body F _ Cert.Kernel.Gen.facts = @Cert.KernelIdeal.cc0_body F _ Cert.KernelIdeal.Gen.facts := rfl
/-- so the two body tables are one table. -/
theorem table_same {F : FTy → Type} [FloatOps F] : Cert.Kernel.defs₀ (F := F) = Cert.KernelIdeal.defs₀ (F := F) := by
  unfold Cert.Kernel.defs₀ Cert.KernelIdeal.defs₀
  refine congrArg Defs.onTc ?_
  funext l
  refine Fin.cases ?_ (fun i => i.elim0) l
  funext ⟨t, s⟩
  show Cert.Kernel.cc0_body .. = Cert.KernelIdeal.cc0_body ..
  rw [body_same]
/-- With the pipelines the programs run, one table too. -/
theorem defs_same {F : FTy → Type} [FloatOps F] : Cert.Kernel.defs (F := F) = Cert.KernelIdeal.defs (F := F) :=
  congrArg (Pipeline.defs Cert.KernelIdeal.pcfgs) table_same

/-- The printed kernel's frame: it is the same program, read at the bits. -/
theorem frame_kernel : Cert.quiescent_Kernel (hKernel := Cert.Kernel.Gen.facts) := fun m ρ _ => by
  rw [defs_same]
  exact frame_any (F := Bits) m ρ

end Cert.Fused

end
-- ==== Proof.Closed.lean ====
/-
# The reference, in closed form

Element by element the reference is a row of sums, each divided by the square root of the row's mean square and scaled. A
quotient by the square root is a product with its reciprocal, since the mean square plus the small constant is positive.
-/
module

public import proofs.«01_k».proof.Proof.Gen.ReferenceIdeal.Run
public import Idealize.ShloMosaic.Lib.Pointwise

@[expose] public section

noncomputable section

namespace Cert.Fused

open Cert.ReferenceIdeal Cert.ReferenceIdeal.Gen
open Idealize.ShloMosaic Idealize.ShloMosaic.TcCoe

/-! ## Numbers -/

/-- The constant the mean square is raised by. -/
abbrev eps : EReal := Ideal.ofBits .f32 0x358637BD#32
/-- The number of columns, as a float. -/
abbrev cols : EReal := Ideal.ofBits .f32 0x45000000#32

/-- The constant is positive. -/
theorem eps_pos : 0 < eps := by
  unfold eps
  simp [Ideal.ofBits, Ideal.ieee, -EReal.coe_mul]
/-- The number of columns is positive. -/
theorem cols_pos : 0 < cols := by
  unfold cols
  simp [Ideal.ofBits, Ideal.ieee, -EReal.coe_mul]

/-- A square is not negative, at the infinities too. -/
theorem sq_nonneg' (x : EReal) : 0 ≤ x * x := by
  induction x with
  | bot => simp
  | top => simp
  | coe r => exact_mod_cast mul_self_nonneg r

/-- The quotient by the root of a positive number, `⊤` included, is the product with the reciprocal root. -/
theorem div_sqrt {v : EReal} (h : 0 < v) (y : EReal) : Ideal.div y (Ideal.sqrt v) = y * Ideal.rsqrt v := by
  induction v with
  | bot => exact absurd h (by simp)
  | top =>
    show Ideal.div y ⊤ = y * 0
    simp [Ideal.div]
  | coe r =>
    have hr : 0 < r := by exact_mod_cast h
    have hs : (Real.sqrt r : EReal) ≠ 0 := by exact_mod_cast (Real.sqrt_pos.mpr hr).ne'
    show Ideal.div y (if r < 0 then ⊥ else (Real.sqrt r : EReal))
      = y * (if r < 0 then ⊥ else if r = 0 then ⊤ else (((Real.sqrt r)⁻¹ : ℝ) : EReal))
    rw [if_neg hr.not_gt, if_neg hr.not_gt, if_neg hr.ne', Ideal.div, if_neg hs, EReal.coe_inv]

/-- The mean square, raised, is positive. -/
theorem ms_pos (y : Fin 2048 → EReal) : 0 < Ideal.div (∑ k, y k * y k) cols + eps := by
  have h : 0 ≤ Ideal.div (∑ k, y k * y k) cols := by
    unfold Ideal.div
    rw [if_neg cols_pos.ne']
    exact mul_nonneg (Finset.sum_nonneg fun k _ => sq_nonneg' _) (EReal.inv_nonneg_of_nonneg cols_pos.le)
  exact lt_of_lt_of_le eps_pos (le_add_of_nonneg_left h)

/-! ## The result, in closed form -/

/-- A row's entries before the normalisation. -/
def yv (P : S2x8192x2048.Idx → EReal) (R : S8192x2048.Idx → EReal) (n : Fin 8192) (k : Fin 2048) : EReal :=
  P (ix3 0 n k) + P (ix3 1 n k) + R (ix2 n k)

/-- The normalised row, scaled. -/
def out (P : S2x8192x2048.Idx → EReal) (R : S8192x2048.Idx → EReal) (G : S2048.Idx → EReal) : S8192x2048.Idx → EReal :=
  fun i => yv P R (i (0 : Fin 2)) (i (1 : Fin 2))
    * Ideal.rsqrt (Ideal.div (∑ l : Fin 2048, yv P R (i (0 : Fin 2)) l * yv P R (i (0 : Fin 2)) l) cols + eps) * G (ix1 (i (1 : Fin 2)))

/-- The reference's operations, composed. -/
def refOut (P : FVec Ideal S2x8192x2048 .f32) (R : FVec Ideal S8192x2048 .f32) (G : FVec Ideal S2048 .f32) : FVec Ideal S8192x2048 .f32 :=
  mulf (Host.divf (addf (Host.reduceAdd P (constant S_ .f32 0x00000000#32) reducesTo_S2x8192x2048_S8192x2048_d0 h_S_) R) (broadcastInDim S8192x2048 ![0, 1] bcast_S8192x1_S8192x2048_0_1 (Host.sqrt (addf (Host.divf (broadcastInDim S8192x1 ![0] bcast_S8192_S8192x1_0 (Host.reduceAdd (mulf (addf (Host.reduceAdd P (constant S_ .f32 0x00000000#32) reducesTo_S2x8192x2048_S8192x2048_d0 h_S_) R) (addf (Host.reduceAdd P (constant S_ .f32 0x00000000#32) reducesTo_S2x8192x2048_S8192x2048_d0 h_S_) R)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))

/-- The operations compute the closed form. -/
theorem ref_eq (P : S2x8192x2048.Idx → EReal) (R : S8192x2048.Idx → EReal) (G : S2048.Idx → EReal) : refOut P R G = out P R G := by
  funext i
  rw [eq_ix2 (n0 := 8192) (n1 := 2048) i]
  unfold out
  rw [← div_sqrt (ms_pos _)]
  unfold yv
  pointwise [refOut]
  simp only [Fin.sum_univ_two]

end Cert.Fused

end
-- ==== Proof.Value.lean ====
/-
# The value

Element by element, the chunk a device finishes is the reference's row normalised: the two copies of `p` are added in
either order, whichever the device adds to the other.
-/
module

public import proofs.«01_k».proof.Defs
public import proofs.«01_k».proof.Proof.Launch
public import proofs.«01_k».proof.Proof.Closed

@[expose] public section

noncomputable section

namespace Cert.Fused

open Cert.KernelIdeal Cert.KernelIdeal.Gen
open Idealize.ShloMosaic Idealize.ShloMosaic.TcCoe
open Idealize.SL.Sem

/-! ## The kernel's chunk -/

/-- An entry of the finished chunk: the sum of the three, by the reciprocal root of the row's mean square, by the scale. -/
theorem pay_apply (a b r : S256x2048.Idx → EReal) (g : S2048.Idx → EReal) (i : Fin 256) (k : Fin 2048) :
    pay (F := Ideal) a b r g (ix2 i k)
      = (a (ix2 i k) + b (ix2 i k) + r (ix2 i k))
        * Ideal.rsqrt (Ideal.div (∑ l : Fin 2048, (a (ix2 i l) + b (ix2 i l) + r (ix2 i l)) * (a (ix2 i l) + b (ix2 i l) + r (ix2 i l))) cols + eps)
        * g (ix1 k) := by
  pointwise [pay, k0_pay1]

variable (m : (ℓ : Loc nD τ sig) → Buf (Elt Ideal) ℓ)

/-- A chunk's rows are rows of the whole array. -/
theorem row_lt (c : Dev nD) (q : Fin 4) (j : Fin 8) (i : Fin 256) : row c q j + i.val < 8192 := by
  unfold row; omega
/-- Row `i` of a chunk, as a row of the whole array. -/
def rowAt (c : Dev nD) (q : Fin 4) (j : Fin 8) (i : Fin 256) : Fin 8192 := ⟨row c q j + i.val, row_lt c q j i⟩

/-- A chunk of `p` reads the device's block at the chunk's rows, -/
theorem pVal_apply (c : Dev nD) (q : Fin 4) (j : Fin 8) (i : Fin 256) (k : Fin 2048) :
    pVal m c q j (ix2 i k) = (m ((c : Thread nD τ).loc main_arg0) : S1x8192x2048.Idx → EReal) (ix3 0 (rowAt c q j i) k) := by
  show shapeCast S256x2048 (fun x : S1x256x2048.Idx => (m ((c : Thread nD τ).loc main_arg0) : S1x8192x2048.Idx → EReal) ((RP c (q, j)).emb x)) (by decide) (ix2 i k) = _
  pointwise
  refine congrArg (m ((c : Thread nD τ).loc main_arg0) : S1x8192x2048.Idx → EReal) (funext fun a => ?_)
  fin_cases a
  · rfl
  · exact Fin.ext (show row c q j + 1 * i.val = row c q j + i.val by omega)
  · exact Fin.ext (show 0 + 1 * k.val = k.val by omega)

/-- and a chunk of the residual the whole residual. -/
theorem rVal_apply (c : Dev nD) (q : Fin 4) (j : Fin 8) (i : Fin 256) (k : Fin 2048) :
    rVal m c q j (ix2 i k) = (m ((c : Thread nD τ).loc main_arg1) : S8192x2048.Idx → EReal) (ix2 (rowAt c q j i) k) := by
  show (m ((c : Thread nD τ).loc main_arg1) : S8192x2048.Idx → EReal) ((RH c (q, j)).emb (ix2 i k)) = _
  refine congrArg (m ((c : Thread nD τ).loc main_arg1) : S8192x2048.Idx → EReal) (funext fun a => ?_)
  fin_cases a
  · exact Fin.ext (show row c q j + 1 * i.val = row c q j + i.val by omega)
  · exact Fin.ext (show 0 + 1 * k.val = k.val by omega)

/-! ## The devices and their rows -/

/-- A quarter's rows are those of the quarter its maker finishes. -/
theorem quarter_maker : ∀ (c : Dev nD) (q : Fin 4) (j : Fin 8), quarter (maker c q j) 0 = quarter c q := by decide

/-- Along the sum two neighbours hold the two blocks of `p`. -/
theorem coord_pair : ∀ c : Dev nD, (Layout.meshLin [2, 2, 2] c.val [1] = 0 ∧ Layout.meshLin [2, 2, 2] (nb .y c).val [1] = 1)
    ∨ (Layout.meshLin [2, 2, 2] c.val [1] = 1 ∧ Layout.meshLin [2, 2, 2] (nb .y c).val [1] = 0) := by decide

section Blocks
variable (P : Cert.ReferenceIdeal.S2x8192x2048.Idx → EReal) (R : S8192x2048.Idx → EReal) (G : S2048.Idx → EReal)

/-- A device's block of `p` is the one that its y coordinate names. -/
theorem block_apply (c : Dev nD) (b : Fin 2) (hb : Layout.meshLin [2, 2, 2] c.val [1] = b.val) (n : Fin 8192) (k : Fin 2048) :
    (Layout.blockN ⟨3, ![1, 8192, 2048]⟩ ⟨3, ![2, 8192, 2048]⟩ (Layout.meshBlock [2, 2, 2] ![[1], [], []] c) P : S1x8192x2048.Idx → EReal) (ix3 0 n k) = P (ix3 b n k) := by
  refine congrArg P (funext fun a => ?_)
  fin_cases a
  · exact Fin.ext (show Layout.meshLin [2, 2, 2] c.val [1] * 1 + 0 = b.val by omega)
  · exact Fin.ext (show 0 * 8192 + n.val = n.val by omega)
  · exact Fin.ext (show 0 * 2048 + k.val = k.val by omega)

variable (h0 : ∀ c : Dev nD, m ((c.tc : Thread nD τ).loc main_arg0)
    = Layout.blockN ⟨3, ![1, 8192, 2048]⟩ ⟨3, ![2, 8192, 2048]⟩ (Layout.meshBlock [2, 2, 2] ![[1], [], []] c) P)
  (h1 : ∀ c : Dev nD, m ((c.tc : Thread nD τ).loc main_arg1) = R) (h2 : ∀ c : Dev nD, m ((c.tc : Thread nD τ).loc main_arg2) = G)
include h0 h1 h2

/-- What a device adds up is the row's entry: the two blocks of `p` in one order or the other. -/
theorem sum_eq (c : Dev nD) (j : Fin 8) (i : Fin 256) (k : Fin 2048) :
    pVal m c 0 j (ix2 i k) + pVal m (nb .y c) 2 j (ix2 i k) + rVal m c 0 j (ix2 i k) = yv P R (rowAt c 0 j i) k := by
  have hn : rowAt (nb .y c) 2 j i = rowAt c 0 j i :=
    Fin.ext (show 2048 * (quarter (nb .y c) 2).val + 256 * j.val + i.val = 2048 * (quarter c 0).val + 256 * j.val + i.val by rw [quarter_yp])
  rw [pVal_apply, pVal_apply, rVal_apply, hn, h0 c, h0 (nb .y c), h1 c]
  unfold yv
  rcases coord_pair c with ⟨ha, hb⟩ | ⟨ha, hb⟩
  · rw [block_apply P c 0 ha, block_apply P (nb .y c) 1 hb]
  · rw [block_apply P c 1 ha, block_apply P (nb .y c) 0 hb, add_comm (P (ix3 1 _ _))]

/-- The chunk a device finishes. -/
theorem fVal_apply (c : Dev nD) (j : Fin 8) (i : Fin 256) (k : Fin 2048) :
    fVal m c j (ix2 i k) = out P R G (ix2 (rowAt c 0 j i) k) := by
  unfold fVal
  rw [pay_apply]
  simp only [sum_eq m P R G h0 h1 h2]
  show _ * _ * (m ((c.tc : Thread nD τ).loc main_arg2) : S2048.Idx → EReal) (ix1 k) = _
  rw [h2 c]; rfl

/-- So contents made of finished chunks are the result. -/
theorem out_eq (c : Dev nD) (X : S8192x2048.Idx → EReal) (h : OutIs m c X) : X = out P R G := by
  funext i
  have hi : i ∈ (Finset.univ : Finset (Fin 4 × Fin 8)).biUnion fun a => (RH c a).set := by rw [RH_cover]; exact Finset.mem_univ _
  obtain ⟨⟨q, j⟩, -, ha⟩ := Finset.mem_biUnion.mp hi
  obtain ⟨x, -, rfl⟩ := Finset.mem_map.mp ((Rect.map_emb_univ (RH c (q, j))).symm ▸ ha)
  have hx := congrFun (h (q, j)) x
  refine hx.trans ?_
  rw [eq_ix2 (n0 := 256) (n1 := 2048) x]
  refine (fVal_apply m P R G h0 h1 h2 _ _ _ _).trans (congrArg (out P R G) (funext fun a => ?_))
  fin_cases a
  · refine Fin.ext ?_
    show 2048 * (quarter (maker c q j) 0).val + 256 * j.val + (x (0 : Fin 2)).val = row c q j + 1 * (x (0 : Fin 2)).val
    rw [quarter_maker]; unfold row; omega
  · exact Fin.ext (show (x (1 : Fin 2)).val = 0 + 1 * (x (1 : Fin 2)).val by omega)
end Blocks

/-- Every device's result is the reference's, and the arguments are left alone. -/
theorem value : Cert.algebraic_KernelIdeal_ReferenceIdeal (hKernelIdeal := Cert.KernelIdeal.Gen.facts) (hReferenceIdeal := Cert.ReferenceIdeal.Gen.facts) :=
  fun m g m' g' _ h =>
    ⟨out (m' ((0 : Dev Cert.ReferenceIdeal.nD).tc.loc Cert.ReferenceIdeal.main_arg0)) (m' ((0 : Dev Cert.ReferenceIdeal.nD).tc.loc Cert.ReferenceIdeal.main_arg1))
        (m' ((0 : Dev Cert.ReferenceIdeal.nD).tc.loc Cert.ReferenceIdeal.main_arg2)),
      (θ_run Cert.KernelIdeal.defs _ _).mono (fun r hr c =>
        ⟨out_eq m _ _ _ (fun c => (h c).1) (fun c => (h c).2.1) (fun c => (h c).2.2) c _ (hr.1 c).2.2.2, (hr.1 c).1, (hr.1 c).2.1, (hr.1 c).2.2.1⟩)
        (run_main (F := Ideal) m g),
      (θ_run Cert.ReferenceIdeal.defs _ _).mono (fun r hr =>
        ⟨(hr 0).1.trans (ref_eq _ _ _), (hr 0).2⟩) (Cert.ReferenceIdeal.Value.run (F := Ideal) m' g')⟩

end Cert.Fused

end
-- ==== Proof.lean ====
/-
# The certificate

The claims, each by its theorem.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Fused.frame_kernel, Cert.Fused.frame_ideal,
    Cert.Fused.frame_ref, trivial, Cert.Fused.value⟩

end Cert.Proof

end
